-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv625" .f32 0x3AD1B717#32 ((625⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v608) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x256x25x25 : Shape := ⟨4, ![64, 256, 25, 25]⟩
abbrev S1x1x3x3 : Shape := ⟨4, ![1, 1, 3, 3]⟩
abbrev S1 : Shape := ⟨1, ![1]⟩
abbrev S1x1x5x5 : Shape := ⟨4, ![1, 1, 5, 5]⟩
abbrev S1x1x7x7 : Shape := ⟨4, ![1, 1, 7, 7]⟩
abbrev S16x256x1x1 : Shape := ⟨4, ![16, 256, 1, 1]⟩
abbrev S16 : Shape := ⟨1, ![16]⟩
abbrev S256x16x1x1 : Shape := ⟨4, ![256, 16, 1, 1]⟩
abbrev S256 : Shape := ⟨1, ![256]⟩
abbrev S_ : Shape := ⟨0, ![]⟩

class Facts : Prop where
  bcast_S_S64x256x25x25 : S_.BroadcastsInDim S64x256x25x25 (![] : Fin 0 → Fin S64x256x25x25.rank)
  reducesTo_S64x256x25x25_S_d0_1_2_3 : S64x256x25x25.ReducesTo [0, 1, 2, 3] S_
  h_S_ : 0 < S_.numel
  bcast_S_S1x1x3x3 : S_.BroadcastsInDim S1x1x3x3 (![] : Fin 0 → Fin S1x1x3x3.rank)
  reducesTo_S1x1x3x3_S_d0_1_2_3 : S1x1x3x3.ReducesTo [0, 1, 2, 3] S_
  bcast_S_S1x1x5x5 : S_.BroadcastsInDim S1x1x5x5 (![] : Fin 0 → Fin S1x1x5x5.rank)
  reducesTo_S1x1x5x5_S_d0_1_2_3 : S1x1x5x5.ReducesTo [0, 1, 2, 3] S_
  bcast_S_S1x1x7x7 : S_.BroadcastsInDim S1x1x7x7 (![] : Fin 0 → Fin S1x1x7x7.rank)
  reducesTo_S1x1x7x7_S_d0_1_2_3 : S1x1x7x7.ReducesTo [0, 1, 2, 3] S_

variable [Facts]

def fn_part1 {F : FTy → Type} [FloatOps F] (main_v13 : IVec S_ 1) (main_v16 : IVec S1x1x7x7 1) : IVec S_ 1 :=
  let main_c_5 : IVec S_ 1 := constantI S_ 1 1#1
  let main_v17 : IVec S_ 1 := (fun x v => Host.reduce IntOp.andi x v reducesTo_S1x1x7x7_S_d0_1_2_3 h_S_) main_v16 main_c_5
  let main_v18 : IVec S_ 1 := andi main_v13 main_v17
  main_v18

def fn {F : FTy → Type} [FloatOps F] (main_arg0 : FVec F S64x256x25x25 .f32) (main_arg1 : FVec F S1x1x3x3 .f32) (main_arg2 : FVec F S1 .f32) (main_arg3 : FVec F S1x1x5x5 .f32) (main_arg4 : FVec F S1 .f32) (main_arg5 : FVec F S1x1x7x7 .f32) (main_arg6 : FVec F S1 .f32) (main_arg7 : FVec F S16x256x1x1 .f32) (main_arg8 : FVec F S16 .f32) (main_arg9 : FVec F S256x16x1x1 .f32) (main_arg10 : FVec F S256 .f32) : IVec S_ 1 :=
  let main_v0 : FVec F S64x256x25x25 .f32 := Host.absf main_arg0
  let main_cst : FVec F S_ .f32 := constant S_ .f32 0x7F800000#32
  let main_v1 : FVec F S64x256x25x25 .f32 := broadcastInDim S64x256x25x25 ![] bcast_S_S64x256x25x25 main_cst
  let main_v2 : IVec S64x256x25x25 1 := cmpf .olt main_v0 main_v1
  let main_c : IVec S_ 1 := constantI S_ 1 1#1
  let main_v3 : IVec S_ 1 := (fun x v => Host.reduce IntOp.andi x v reducesTo_S64x256x25x25_S_d0_1_2_3 h_S_) main_v2 main_c
  let main_v4 : FVec F S1x1x3x3 .f32 := Host.absf main_arg1
  let main_cst_0 : FVec F S_ .f32 := constant S_ .f32 0x7F800000#32
  let main_v5 : FVec F S1x1x3x3 .f32 := broadcastInDim S1x1x3x3 ![] bcast_S_S1x1x3x3 main_cst_0
  let main_v6 : IVec S1x1x3x3 1 := cmpf .olt main_v4 main_v5
  let main_c_1 : IVec S_ 1 := constantI S_ 1 1#1
  let main_v7 : IVec S_ 1 := (fun x v => Host.reduce IntOp.andi x v reducesTo_S1x1x3x3_S_d0_1_2_3 h_S_) main_v6 main_c_1
  let main_v8 : IVec S_ 1 := andi main_v3 main_v7
  let main_v9 : FVec F S1x1x5x5 .f32 := Host.absf main_arg3
  let main_cst_2 : FVec F S_ .f32 := constant S_ .f32 0x7F800000#32
  let main_v10 : FVec F S1x1x5x5 .f32 := broadcastInDim S1x1x5x5 ![] bcast_S_S1x1x5x5 main_cst_2
  let main_v11 : IVec S1x1x5x5 1 := cmpf .olt main_v9 main_v10
  let main_c_3 : IVec S_ 1 := constantI S_ 1 1#1
  let main_v12 : IVec S_ 1 := (fun x v => Host.reduce IntOp.andi x v reducesTo_S1x1x5x5_S_d0_1_2_3 h_S_) main_v11 main_c_3
  let main_v13 : IVec S_ 1 := andi main_v8 main_v12
  let main_v14 : FVec F S1x1x7x7 .f32 := Host.absf main_arg5
  let main_cst_4 : FVec F S_ .f32 := constant S_ .f32 0x7F800000#32
  let main_v15 : FVec F S1x1x7x7 .f32 := broadcastInDim S1x1x7x7 ![] bcast_S_S1x1x7x7 main_cst_4
  let main_v16 : IVec S1x1x7x7 1 := cmpf .olt main_v14 main_v15
  fn_part1 (F := F) main_v13 main_v16
-- ==== Kernel.lean ====
abbrev S64x256x25x25 : Shape := ⟨4, ![64, 256, 25, 25]⟩
abbrev S1x1x3x3 : Shape := ⟨4, ![1, 1, 3, 3]⟩
abbrev S1 : Shape := ⟨1, ![1]⟩
abbrev S1x1x5x5 : Shape := ⟨4, ![1, 1, 5, 5]⟩
abbrev S1x1x7x7 : Shape := ⟨4, ![1, 1, 7, 7]⟩
abbrev S16x256x1x1 : Shape := ⟨4, ![16, 256, 1, 1]⟩
abbrev S16 : Shape := ⟨1, ![16]⟩
abbrev S256x16x1x1 : Shape := ⟨4, ![256, 16, 1, 1]⟩
abbrev S256 : Shape := ⟨1, ![256]⟩
abbrev S32768 : Shape := ⟨1, ![32768]⟩
abbrev S5x256x25x25 : Shape := ⟨4, ![5, 256, 25, 25]⟩
abbrev S5x256x625 : Shape := ⟨3, ![5, 256, 625]⟩
abbrev S3x3 : Shape := ⟨2, ![3, 3]⟩
abbrev S5x5 : Shape := ⟨2, ![5, 5]⟩
abbrev S7x7 : Shape := ⟨2, ![7, 7]⟩
abbrev S16x256 : Shape := ⟨2, ![16, 256]⟩
abbrev S256x16 : Shape := ⟨2, ![256, 16]⟩
abbrev S1x16 : Shape := ⟨2, ![1, 16]⟩
abbrev S1x256 : Shape := ⟨2, ![1, 256]⟩
abbrev S5x256x16 : Shape := ⟨3, ![5, 256, 16]⟩
abbrev S5x256 : Shape := ⟨2, ![5, 256]⟩
abbrev S5x3 : Shape := ⟨2, ![5, 3]⟩
abbrev S5x262 : Shape := ⟨2, ![5, 262]⟩
abbrev S1x1 : Shape := ⟨2, ![1, 1]⟩
abbrev S5x16 : Shape := ⟨2, ![5, 16]⟩
abbrev S5x256x1 : Shape := ⟨3, ![5, 256, 1]⟩
abbrev S5x256x3 : Shape := ⟨3, ![5, 256, 3]⟩
abbrev S5x256x7 : Shape := ⟨3, ![5, 256, 7]⟩
abbrev S20480 : Shape := ⟨1, ![20480]⟩
abbrev S32x9x1024 : Shape := ⟨3, ![32, 9, 1024]⟩
abbrev S1024 : Shape := ⟨1, ![1024]⟩
abbrev S9x1024 : Shape := ⟨2, ![9, 1024]⟩
abbrev S_ : Shape := ⟨0, ![]⟩
abbrev S1x9x1024 : Shape := ⟨3, ![1, 9, 1024]⟩
abbrev S32x1024x9 : Shape := ⟨3, ![32, 1024, 9]⟩
abbrev S32768x9 : Shape := ⟨2, ![32768, 9]⟩
abbrev S32000x9 : Shape := ⟨2, ![32000, 9]⟩
abbrev S64x5x100x3x3 : Shape := ⟨5, ![64, 5, 100, 3, 3]⟩

abbrev nBuf : Table → Nat
  | .hbm => 28
  | .local .tc .vmem => 6
  | .local .tc .smem => 6
  | .local .scVector .vmem => 3
  | _ => 0

abbrev bufTy : (tb : Table) → Fin (nBuf tb) → BufTy
  | .hbm, ⟨0, _⟩ => ⟨S64x256x25x25, .f32⟩
  | .hbm, ⟨1, _⟩ => ⟨S1x1x3x3, .f32⟩
  | .hbm, ⟨2, _⟩ => ⟨S1, .f32⟩
  | .hbm, ⟨3, _⟩ => ⟨S1x1x5x5, .f32⟩
  | .hbm, ⟨4, _⟩ => ⟨S1, .f32⟩
  | .hbm, ⟨5, _⟩ => ⟨S1x1x7x7, .f32⟩
  | .hbm, ⟨6, _⟩ => ⟨S1, .f32⟩
  | .hbm, ⟨7, _⟩ => ⟨S16x256x1x1, .f32⟩
  | .hbm, ⟨8, _⟩ => ⟨S16, .f32⟩
  | .hbm, ⟨9, _⟩ => ⟨S256x16x1x1, .f32⟩
  | .hbm, ⟨10, _⟩ => ⟨S256, .f32⟩
  | .hbm, ⟨11, _⟩ => ⟨S32768, .i32⟩
  | .hbm, ⟨12, _⟩ => ⟨S5x256x25x25, .f32⟩
  | .hbm, ⟨13, _⟩ => ⟨S5x256x625, .f32⟩
  | .hbm, ⟨14, _⟩ => ⟨S3x3, .f32⟩
  | .hbm, ⟨15, _⟩ => ⟨S5x5, .f32⟩
  | .hbm, ⟨16, _⟩ => ⟨S7x7, .f32⟩
  | .hbm, ⟨17, _⟩ => ⟨S16x256, .f32⟩
  | .hbm, ⟨18, _⟩ => ⟨S256x16, .f32⟩
  | .hbm, ⟨19, _⟩ => ⟨S1x16, .f32⟩
  | .hbm, ⟨20, _⟩ => ⟨S1x256, .f32⟩
  | .hbm, ⟨21, _⟩ => ⟨S5x256x16, .f32⟩
  | .hbm, ⟨22, _⟩ => ⟨S20480, .f32⟩
  | .hbm, ⟨23, _⟩ => ⟨S32x9x1024, .f32⟩
  | .hbm, ⟨24, _⟩ => ⟨S32x1024x9, .f32⟩
  | .hbm, ⟨25, _⟩ => ⟨S32768x9, .f32⟩
  | .hbm, ⟨26, _⟩ => ⟨S32000x9, .f32⟩
  | .hbm, ⟨27, _⟩ => ⟨S64x5x100x3x3, .f32⟩
  | .local .tc .vmem, ⟨0, _⟩ => ⟨S5x256x625, .f32⟩
  | .local .tc .vmem, ⟨1, _⟩ => ⟨S16x256, .f32⟩
  | .local .tc .vmem, ⟨2, _⟩ => ⟨S1x16, .f32⟩
  | .local .tc .vmem, ⟨3, _⟩ => ⟨S256x16, .f32⟩
  | .local .tc .vmem, ⟨4, _⟩ => ⟨S1x256, .f32⟩
  | .local .tc .vmem, ⟨5, _⟩ => ⟨S5x256x16, .f32⟩
  | .local .tc .smem, ⟨0, _⟩ => ⟨S3x3, .f32⟩
  | .local .tc .smem, ⟨1, _⟩ => ⟨S5x5, .f32⟩
  | .local .tc .smem, ⟨2, _⟩ => ⟨S7x7, .f32⟩
  | .local .tc .smem, ⟨3, _⟩ => ⟨S1, .f32⟩
  | .local .tc .smem, ⟨4, _⟩ => ⟨S1, .f32⟩
  | .local .tc .smem, ⟨5, _⟩ => ⟨S1, .f32⟩
  | .local .scVector .vmem, ⟨0, _⟩ => ⟨S20480, .f32⟩
  | .local .scVector .vmem, ⟨1, _⟩ => ⟨S1024, .i32⟩
  | .local .scVector .vmem, ⟨2, _⟩ => ⟨S9x1024, .f32⟩
  | _, _ => ⟨S64x256x25x25, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v10_scv : Ref sig .scVector := ⟨.hbm, 22, rfl⟩
abbrev main_c_scv : Ref sig .scVector := ⟨.hbm, 11, rfl⟩
abbrev main_v11_scv : Ref sig .scVector := ⟨.hbm, 23, rfl⟩
abbrev cc0_stg6_0 : Ref sig .tc := ⟨.vmem, 0, rfl⟩
abbrev cc0_stg7_0 : Ref sig .tc := ⟨.vmem, 1, rfl⟩
abbrev cc0_stg8_0 : Ref sig .tc := ⟨.vmem, 2, rfl⟩
abbrev cc0_stg9_0 : Ref sig .tc := ⟨.vmem, 3, rfl⟩
abbrev cc0_stg10_0 : Ref sig .tc := ⟨.vmem, 4, rfl⟩
abbrev cc0_stg11_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .smem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S7x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x256x625 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5x256x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k1_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg8 : BitVec 32 := Scf.iv c0_i32_0 c1_i32 k1_t1
  let c16_i32 : BitVec 32 := 16#32
  let v4 : BitVec 32 := Scalar.muli arg8 c16_i32
  let v5 : Index := Scalar.indexCast v4
  ![v5.toNat]

def k1_chk1 (v10 : IVec S16 32) : Prop :=
  (∀ a x, ((![v10] : Fin 1 → IVec S16 32) a x).toNat < S20480.size a)
theorem k1_idx1_inb : ∀ (v10 : IVec S16 32) (k1_hw1 : k1_chk1 v10), ∀ a x, ((![v10] : Fin 1 → IVec S16 32) a x).toNat < S20480.size a := fun v10 k1_hw1 => k1_hw1
def k1_off3 (k1_t1 : Fin k1_t1_loop.trips) : Fin 2 → Nat :=
  let c0_i32_5 : BitVec 32 := 0#32
  let v13 : Index := Scalar.indexCast c0_i32_5
  let c0_i32_0 : BitVec 32 := 0#32
  let c1_i32 : BitVec 32 := 1#32
  let arg8 : BitVec 32 := Scf.iv c0_i32_0 c1_i32 k1_t1
  let c16_i32_4 : BitVec 32 := 16#32
  let v12 : BitVec 32 := Scalar.muli arg8 c16_i32_4
  let v14 : Index := Scalar.indexCast v12
  ![0, v14.toNat]

def k1_chk2 (v17 : IVec S16 32) : Prop :=
  (∀ a x, ((![v17] : Fin 1 → IVec S16 32) a x).toNat < S20480.size a)
theorem k1_idx2_inb : ∀ (v17 : IVec S16 32) (k1_hw2 : k1_chk2 v17), ∀ a x, ((![v17] : Fin 1 → IVec S16 32) a x).toNat < S20480.size a := fun v17 k1_hw2 => k1_hw2
def k1_off4 (k1_t1 : Fin k1_t1_loop.trips) : Fin 2 → Nat :=
  let c1_i32_8 : BitVec 32 := 1#32
  let v20 : Index := Scalar.indexCast c1_i32_8
  let c0_i32_0 : BitVec 32 := 0#32
  let c1_i32 : BitVec 32 := 1#32
  let arg8 : BitVec 32 := Scf.iv c0_i32_0 c1_i32 k1_t1
  let c16_i32_7 : BitVec 32 := 16#32
  let v19 : BitVec 32 := Scalar.muli arg8 c16_i32_7
  let v21 : Index := Scalar.indexCast v19
  ![1, v21.toNat]

def k1_chk3 (v24 : IVec S16 32) : Prop :=
  (∀ a x, ((![v24] : Fin 1 → IVec S16 32) a x).toNat < S20480.size a)
theorem k1_idx3_inb : ∀ (v24 : IVec S16 32) (k1_hw3 : k1_chk3 v24), ∀ a x, ((![v24] : Fin 1 → IVec S16 32) a x).toNat < S20480.size a := fun v24 k1_hw3 => k1_hw3
def k1_off5 (k1_t1 : Fin k1_t1_loop.trips) : Fin 2 → Nat :=
  let c2_i32_11 : BitVec 32 := 2#32
  let v27 : Index := Scalar.indexCast c2_i32_11
  let c0_i32_0 : BitVec 32 := 0#32
  let c1_i32 : BitVec 32 := 1#32
  let arg8 : BitVec 32 := Scf.iv c0_i32_0 c1_i32 k1_t1
  let c16_i32_10 : BitVec 32 := 16#32
  let v26 : BitVec 32 := Scalar.muli arg8 c16_i32_10
  let v28 : Index := Scalar.indexCast v26
  ![2, v28.toNat]

def k1_chk4 (v31 : IVec S16 32) : Prop :=
  (∀ a x, ((![v31] : Fin 1 → IVec S16 32) a x).toNat < S20480.size a)
theorem k1_idx4_inb : ∀ (v31 : IVec S16 32) (k1_hw4 : k1_chk4 v31), ∀ a x, ((![v31] : Fin 1 → IVec S16 32) a x).toNat < S20480.size a := fun v31 k1_hw4 => k1_hw4
def k1_off6 (k1_t1 : Fin k1_t1_loop.trips) : Fin 2 → Nat :=
  let c3_i32_13 : BitVec 32 := 3#32
  let v34 : Index := Scalar.indexCast c3_i32_13
  let c0_i32_0 : BitVec 32 := 0#32
  let c1_i32 : BitVec 32 := 1#32
  let arg8 : BitVec 32 := Scf.iv c0_i32_0 c1_i32 k1_t1
  let c16_i32_12 : BitVec 32 := 16#32
  let v33 : BitVec 32 := Scalar.muli arg8 c16_i32_12
  let v35 : Index := Scalar.indexCast v33
  ![3, v35.toNat]

def k1_chk5 (v38 : IVec S16 32) : Prop :=
  (∀ a x, ((![v38] : Fin 1 → IVec S16 32) a x).toNat < S20480.size a)
theorem k1_idx5_inb : ∀ (v38 : IVec S16 32) (k1_hw5 : k1_chk5 v38), ∀ a x, ((![v38] : Fin 1 → IVec S16 32) a x).toNat < S20480.size a := fun v38 k1_hw5 => k1_hw5
def k1_off7 (k1_t1 : Fin k1_t1_loop.trips) : Fin 2 → Nat :=
  let c4_i32_15 : BitVec 32 := 4#32
  let v41 : Index := Scalar.indexCast c4_i32_15
  let c0_i32_0 : BitVec 32 := 0#32
  let c1_i32 : BitVec 32 := 1#32
  let arg8 : BitVec 32 := Scf.iv c0_i32_0 c1_i32 k1_t1
  let c16_i32_14 : BitVec 32 := 16#32
  let v40 : BitVec 32 := Scalar.muli arg8 c16_i32_14
  let v42 : Index := Scalar.indexCast v40
  ![4, v42.toNat]

def k1_chk6 (v45 : IVec S16 32) : Prop :=
  (∀ a x, ((![v45] : Fin 1 → IVec S16 32) a x).toNat < S20480.size a)
theorem k1_idx6_inb : ∀ (v45 : IVec S16 32) (k1_hw6 : k1_chk6 v45), ∀ a x, ((![v45] : Fin 1 → IVec S16 32) a x).toNat < S20480.size a := fun v45 k1_hw6 => k1_hw6
def k1_off8 (k1_t1 : Fin k1_t1_loop.trips) : Fin 2 → Nat :=
  let c5_i32_17 : BitVec 32 := 5#32
  let v48 : Index := Scalar.indexCast c5_i32_17
  let c0_i32_0 : BitVec 32 := 0#32
  let c1_i32 : BitVec 32 := 1#32
  let arg8 : BitVec 32 := Scf.iv c0_i32_0 c1_i32 k1_t1
  let c16_i32_16 : BitVec 32 := 16#32
  let v47 : BitVec 32 := Scalar.muli arg8 c16_i32_16
  let v49 : Index := Scalar.indexCast v47
  ![5, v49.toNat]

def k1_chk7 (v52 : IVec S16 32) : Prop :=
  (∀ a x, ((![v52] : Fin 1 → IVec S16 32) a x).toNat < S20480.size a)
theorem k1_idx7_inb : ∀ (v52 : IVec S16 32) (k1_hw7 : k1_chk7 v52), ∀ a x, ((![v52] : Fin 1 → IVec S16 32) a x).toNat < S20480.size a := fun v52 k1_hw7 => k1_hw7
def k1_off9 (k1_t1 : Fin k1_t1_loop.trips) : Fin 2 → Nat :=
  let c6_i32_19 : BitVec 32 := 6#32
  let v55 : Index := Scalar.indexCast c6_i32_19
  let c0_i32_0 : BitVec 32 := 0#32
  let c1_i32 : BitVec 32 := 1#32
  let arg8 : BitVec 32 := Scf.iv c0_i32_0 c1_i32 k1_t1
  let c16_i32_18 : BitVec 32 := 16#32
  let v54 : BitVec 32 := Scalar.muli arg8 c16_i32_18
  let v56 : Index := Scalar.indexCast v54
  ![6, v56.toNat]

def k1_chk8 (v59 : IVec S16 32) : Prop :=
  (∀ a x, ((![v59] : Fin 1 → IVec S16 32) a x).toNat < S20480.size a)
theorem k1_idx8_inb : ∀ (v59 : IVec S16 32) (k1_hw8 : k1_chk8 v59), ∀ a x, ((![v59] : Fin 1 → IVec S16 32) a x).toNat < S20480.size a := fun v59 k1_hw8 => k1_hw8
def k1_off10 (k1_t1 : Fin k1_t1_loop.trips) : Fin 2 → Nat :=
  let c7_i32_21 : BitVec 32 := 7#32
  let v62 : Index := Scalar.indexCast c7_i32_21
  let c0_i32_0 : BitVec 32 := 0#32
  let c1_i32 : BitVec 32 := 1#32
  let arg8 : BitVec 32 := Scf.iv c0_i32_0 c1_i32 k1_t1
  let c16_i32_20 : BitVec 32 := 16#32
  let v61 : BitVec 32 := Scalar.muli arg8 c16_i32_20
  let v63 : Index := Scalar.indexCast v61
  ![7, v63.toNat]

def k1_chk9 (v66 : IVec S16 32) : Prop :=
  (∀ a x, ((![v66] : Fin 1 → IVec S16 32) a x).toNat < S20480.size a)
theorem k1_idx9_inb : ∀ (v66 : IVec S16 32) (k1_hw9 : k1_chk9 v66), ∀ a x, ((![v66] : Fin 1 → IVec S16 32) a x).toNat < S20480.size a := fun v66 k1_hw9 => k1_hw9
def k1_off11 (k1_t1 : Fin k1_t1_loop.trips) : Fin 2 → Nat :=
  let c8_i32_23 : BitVec 32 := 8#32
  let v69 : Index := Scalar.indexCast c8_i32_23
  let c0_i32_0 : BitVec 32 := 0#32
  let c1_i32 : BitVec 32 := 1#32
  let arg8 : BitVec 32 := Scf.iv c0_i32_0 c1_i32 k1_t1
  let c16_i32_22 : BitVec 32 := 16#32
  let v68 : BitVec 32 := Scalar.muli arg8 c16_i32_22
  let v70 : Index := Scalar.indexCast v68
  ![8, v70.toNat]
def k1_off12 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r2 : BitVec 32 := 0#32
  let c0_i32_3_r2 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv625" => some ((625⁻¹ : ℝ) : EReal)
  | _ => none
-- ==== ReferenceIdeal.lean ====
abbrev S64x256x25x25 : Shape := ⟨4, ![64, 256, 25, 25]⟩
abbrev S1x1x3x3 : Shape := ⟨4, ![1, 1, 3, 3]⟩
abbrev S1 : Shape := ⟨1, ![1]⟩
abbrev S1x1x5x5 : Shape := ⟨4, ![1, 1, 5, 5]⟩
abbrev S1x1x7x7 : Shape := ⟨4, ![1, 1, 7, 7]⟩
abbrev S16x256x1x1 : Shape := ⟨4, ![16, 256, 1, 1]⟩
abbrev S16 : Shape := ⟨1, ![16]⟩
abbrev S256x16x1x1 : Shape := ⟨4, ![256, 16, 1, 1]⟩
abbrev S256 : Shape := ⟨1, ![256]⟩
abbrev S64x100 : Shape := ⟨2, ![64, 100]⟩
abbrev S_ : Shape := ⟨0, ![]⟩
abbrev S64x256 : Shape := ⟨2, ![64, 256]⟩
abbrev S64x256x1x1 : Shape := ⟨4, ![64, 256, 1, 1]⟩
abbrev S64x1x1x256 : Shape := ⟨4, ![64, 1, 1, 256]⟩
abbrev S64x1x3x258 : Shape := ⟨4, ![64, 1, 3, 258]⟩
abbrev S1x1x1x1 : Shape := ⟨4, ![1, 1, 1, 1]⟩
abbrev S64x1x5x260 : Shape := ⟨4, ![64, 1, 5, 260]⟩
abbrev S64x1x7x262 : Shape := ⟨4, ![64, 1, 7, 262]⟩
abbrev S16x256 : Shape := ⟨2, ![16, 256]⟩
abbrev S64x16 : Shape := ⟨2, ![64, 16]⟩
abbrev S64x16x1x1 : Shape := ⟨4, ![64, 16, 1, 1]⟩
abbrev S1x16x1x1 : Shape := ⟨4, ![1, 16, 1, 1]⟩
abbrev S256x16 : Shape := ⟨2, ![256, 16]⟩
abbrev S1x256x1x1 : Shape := ⟨4, ![1, 256, 1, 1]⟩
abbrev S64x100x1 : Shape := ⟨3, ![64, 100, 1]⟩
abbrev S64x100x4 : Shape := ⟨3, ![64, 100, 4]⟩
abbrev S64x100x3x3 : Shape := ⟨4, ![64, 100, 3, 3]⟩
abbrev S64x1x100x3x3 : Shape := ⟨5, ![64, 1, 100, 3, 3]⟩
abbrev S64x5x100x3x3 : Shape := ⟨5, ![64, 5, 100, 3, 3]⟩

abbrev nBuf : Space → Nat
  | .hbm => 664
  | .vmem => 0
  | .smem => 0
  | _ => 0

abbrev hbmTy0_0 (i : Nat) : BufTy := match i % 128 with
  | 0 => ⟨S64x256x25x25, .f32⟩
  | 1 => ⟨S1x1x3x3, .f32⟩
  | 2 => ⟨S1, .f32⟩
  | 3 => ⟨S1x1x5x5, .f32⟩
  | 4 => ⟨S1, .f32⟩
  | 5 => ⟨S1x1x7x7, .f32⟩
  | 6 => ⟨S1, .f32⟩
  | 7 => ⟨S16x256x1x1, .f32⟩
  | 8 => ⟨S16, .f32⟩
  | 9 => ⟨S256x16x1x1, .f32⟩
  | 10 => ⟨S256, .f32⟩
  | 11 => ⟨S64x100, .i32⟩
  | 12 => ⟨S64x100, .i1⟩
  | 13 => ⟨S64x100, .i32⟩
  | 14 => ⟨S64x100, .i1⟩
  | 15 => ⟨S64x100, .i32⟩
  | 16 => ⟨S64x100, .i1⟩
  | 17 => ⟨S64x100, .i32⟩
  | 18 => ⟨S64x100, .i1⟩
  | 19 => ⟨S64x100, .i32⟩
  | 20 => ⟨S64x100, .i1⟩
  | 21 => ⟨S_, .f32⟩
  | 22 => ⟨S64x256, .f32⟩
  | 23 => ⟨S64x256x1x1, .f32⟩
  | 24 => ⟨S_, .f32⟩
  | 25 => ⟨S64x256x1x1, .f32⟩
  | 26 => ⟨S64x256x1x1, .f32⟩
  | 27 => ⟨S64x1x1x256, .f32⟩
  | 28 => ⟨S_, .i32⟩
  | 29 => ⟨S_, .f32⟩
  | 30 => ⟨S64x1x3x258, .f32⟩
  | 31 => ⟨S_, .f32⟩
  | 32 => ⟨S64x1x1x256, .f32⟩
  | 33 => ⟨S1x1x1x1, .f32⟩
  | 34 => ⟨S_, .f32⟩
  | 35 => ⟨S64x1x1x256, .f32⟩
  | 36 => ⟨S64x1x1x256, .f32⟩
  | 37 => ⟨S64x1x1x256, .f32⟩
  | 38 => ⟨S64x1x1x256, .f32⟩
  | 39 => ⟨S1x1x1x1, .f32⟩
  | 40 => ⟨S_, .f32⟩
  | 41 => ⟨S64x1x1x256, .f32⟩
  | 42 => ⟨S64x1x1x256, .f32⟩
  | 43 => ⟨S64x1x1x256, .f32⟩
  | 44 => ⟨S64x1x1x256, .f32⟩
  | 45 => ⟨S1x1x1x1, .f32⟩
  | 46 => ⟨S_, .f32⟩
  | 47 => ⟨S64x1x1x256, .f32⟩
  | 48 => ⟨S64x1x1x256, .f32⟩
  | 49 => ⟨S64x1x1x256, .f32⟩
  | 50 => ⟨S64x1x1x256, .f32⟩
  | 51 => ⟨S1x1x1x1, .f32⟩
  | 52 => ⟨S_, .f32⟩
  | 53 => ⟨S64x1x1x256, .f32⟩
  | 54 => ⟨S64x1x1x256, .f32⟩
  | 55 => ⟨S64x1x1x256, .f32⟩
  | 56 => ⟨S64x1x1x256, .f32⟩
  | 57 => ⟨S1x1x1x1, .f32⟩
  | 58 => ⟨S_, .f32⟩
  | 59 => ⟨S64x1x1x256, .f32⟩
  | 60 => ⟨S64x1x1x256, .f32⟩
  | 61 => ⟨S64x1x1x256, .f32⟩
  | 62 => ⟨S64x1x1x256, .f32⟩
  | 63 => ⟨S1x1x1x1, .f32⟩
  | 64 => ⟨S_, .f32⟩
  | 65 => ⟨S64x1x1x256, .f32⟩
  | 66 => ⟨S64x1x1x256, .f32⟩
  | 67 => ⟨S64x1x1x256, .f32⟩
  | 68 => ⟨S64x1x1x256, .f32⟩
  | 69 => ⟨S1x1x1x1, .f32⟩
  | 70 => ⟨S_, .f32⟩
  | 71 => ⟨S64x1x1x256, .f32⟩
  | 72 => ⟨S64x1x1x256, .f32⟩
  | 73 => ⟨S64x1x1x256, .f32⟩
  | 74 => ⟨S64x1x1x256, .f32⟩
  | 75 => ⟨S1x1x1x1, .f32⟩
  | 76 => ⟨S_, .f32⟩
  | 77 => ⟨S64x1x1x256, .f32⟩
  | 78 => ⟨S64x1x1x256, .f32⟩
  | 79 => ⟨S64x1x1x256, .f32⟩
  | 80 => ⟨S64x1x1x256, .f32⟩
  | 81 => ⟨S1x1x1x1, .f32⟩
  | 82 => ⟨S_, .f32⟩
  | 83 => ⟨S64x1x1x256, .f32⟩
  | 84 => ⟨S64x1x1x256, .f32⟩
  | 85 => ⟨S64x1x1x256, .f32⟩
  | 86 => ⟨S64x1x1x256, .f32⟩
  | 87 => ⟨S1x1x1x1, .f32⟩
  | 88 => ⟨S64x1x1x256, .f32⟩
  | 89 => ⟨S64x1x1x256, .f32⟩
  | 90 => ⟨S_, .i32⟩
  | 91 => ⟨S_, .f32⟩
  | 92 => ⟨S64x1x5x260, .f32⟩
  | 93 => ⟨S_, .f32⟩
  | 94 => ⟨S64x1x1x256, .f32⟩
  | 95 => ⟨S1x1x1x1, .f32⟩
  | 96 => ⟨S_, .f32⟩
  | 97 => ⟨S64x1x1x256, .f32⟩
  | 98 => ⟨S64x1x1x256, .f32⟩
  | 99 => ⟨S64x1x1x256, .f32⟩
  | 100 => ⟨S64x1x1x256, .f32⟩
  | 101 => ⟨S1x1x1x1, .f32⟩
  | 102 => ⟨S_, .f32⟩
  | 103 => ⟨S64x1x1x256, .f32⟩
  | 104 => ⟨S64x1x1x256, .f32⟩
  | 105 => ⟨S64x1x1x256, .f32⟩
  | 106 => ⟨S64x1x1x256, .f32⟩
  | 107 => ⟨S1x1x1x1, .f32⟩
  | 108 => ⟨S_, .f32⟩
  | 109 => ⟨S64x1x1x256, .f32⟩
  | 110 => ⟨S64x1x1x256, .f32⟩
  | 111 => ⟨S64x1x1x256, .f32⟩
  | 112 => ⟨S64x1x1x256, .f32⟩
  | 113 => ⟨S1x1x1x1, .f32⟩
  | 114 => ⟨S_, .f32⟩
  | 115 => ⟨S64x1x1x256, .f32⟩
  | 116 => ⟨S64x1x1x256, .f32⟩
  | 117 => ⟨S64x1x1x256, .f32⟩
  | 118 => ⟨S64x1x1x256, .f32⟩
  | 119 => ⟨S1x1x1x1, .f32⟩
  | 120 => ⟨S_, .f32⟩
  | 121 => ⟨S64x1x1x256, .f32⟩
  | 122 => ⟨S64x1x1x256, .f32⟩
  | 123 => ⟨S64x1x1x256, .f32⟩
  | 124 => ⟨S64x1x1x256, .f32⟩
  | 125 => ⟨S1x1x1x1, .f32⟩
  | 126 => ⟨S_, .f32⟩
  | 127 => ⟨S64x1x1x256, .f32⟩
  | _ => ⟨S64x256x25x25, .f32⟩

abbrev hbmTy0_1 (i : Nat) : BufTy := match i % 128 with
  | 0 => ⟨S64x1x1x256, .f32⟩
  | 1 => ⟨S64x1x1x256, .f32⟩
  | 2 => ⟨S64x1x1x256, .f32⟩
  | 3 => ⟨S1x1x1x1, .f32⟩
  | 4 => ⟨S_, .f32⟩
  | 5 => ⟨S64x1x1x256, .f32⟩
  | 6 => ⟨S64x1x1x256, .f32⟩
  | 7 => ⟨S64x1x1x256, .f32⟩
  | 8 => ⟨S64x1x1x256, .f32⟩
  | 9 => ⟨S1x1x1x1, .f32⟩
  | 10 => ⟨S_, .f32⟩
  | 11 => ⟨S64x1x1x256, .f32⟩
  | 12 => ⟨S64x1x1x256, .f32⟩
  | 13 => ⟨S64x1x1x256, .f32⟩
  | 14 => ⟨S64x1x1x256, .f32⟩
  | 15 => ⟨S1x1x1x1, .f32⟩
  | 16 => ⟨S_, .f32⟩
  | 17 => ⟨S64x1x1x256, .f32⟩
  | 18 => ⟨S64x1x1x256, .f32⟩
  | 19 => ⟨S64x1x1x256, .f32⟩
  | 20 => ⟨S64x1x1x256, .f32⟩
  | 21 => ⟨S1x1x1x1, .f32⟩
  | 22 => ⟨S_, .f32⟩
  | 23 => ⟨S64x1x1x256, .f32⟩
  | 24 => ⟨S64x1x1x256, .f32⟩
  | 25 => ⟨S64x1x1x256, .f32⟩
  | 26 => ⟨S64x1x1x256, .f32⟩
  | 27 => ⟨S1x1x1x1, .f32⟩
  | 28 => ⟨S_, .f32⟩
  | 29 => ⟨S64x1x1x256, .f32⟩
  | 30 => ⟨S64x1x1x256, .f32⟩
  | 31 => ⟨S64x1x1x256, .f32⟩
  | 32 => ⟨S64x1x1x256, .f32⟩
  | 33 => ⟨S1x1x1x1, .f32⟩
  | 34 => ⟨S_, .f32⟩
  | 35 => ⟨S64x1x1x256, .f32⟩
  | 36 => ⟨S64x1x1x256, .f32⟩
  | 37 => ⟨S64x1x1x256, .f32⟩
  | 38 => ⟨S64x1x1x256, .f32⟩
  | 39 => ⟨S1x1x1x1, .f32⟩
  | 40 => ⟨S_, .f32⟩
  | 41 => ⟨S64x1x1x256, .f32⟩
  | 42 => ⟨S64x1x1x256, .f32⟩
  | 43 => ⟨S64x1x1x256, .f32⟩
  | 44 => ⟨S64x1x1x256, .f32⟩
  | 45 => ⟨S1x1x1x1, .f32⟩
  | 46 => ⟨S_, .f32⟩
  | 47 => ⟨S64x1x1x256, .f32⟩
  | 48 => ⟨S64x1x1x256, .f32⟩
  | 49 => ⟨S64x1x1x256, .f32⟩
  | 50 => ⟨S64x1x1x256, .f32⟩
  | 51 => ⟨S1x1x1x1, .f32⟩
  | 52 => ⟨S_, .f32⟩
  | 53 => ⟨S64x1x1x256, .f32⟩
  | 54 => ⟨S64x1x1x256, .f32⟩
  | 55 => ⟨S64x1x1x256, .f32⟩
  | 56 => ⟨S64x1x1x256, .f32⟩
  | 57 => ⟨S1x1x1x1, .f32⟩
  | 58 => ⟨S_, .f32⟩
  | 59 => ⟨S64x1x1x256, .f32⟩
  | 60 => ⟨S64x1x1x256, .f32⟩
  | 61 => ⟨S64x1x1x256, .f32⟩
  | 62 => ⟨S64x1x1x256, .f32⟩
  | 63 => ⟨S1x1x1x1, .f32⟩
  | 64 => ⟨S_, .f32⟩
  | 65 => ⟨S64x1x1x256, .f32⟩
  | 66 => ⟨S64x1x1x256, .f32⟩
  | 67 => ⟨S64x1x1x256, .f32⟩
  | 68 => ⟨S64x1x1x256, .f32⟩
  | 69 => ⟨S1x1x1x1, .f32⟩
  | 70 => ⟨S_, .f32⟩
  | 71 => ⟨S64x1x1x256, .f32⟩
  | 72 => ⟨S64x1x1x256, .f32⟩
  | 73 => ⟨S64x1x1x256, .f32⟩
  | 74 => ⟨S64x1x1x256, .f32⟩
  | 75 => ⟨S1x1x1x1, .f32⟩
  | 76 => ⟨S_, .f32⟩
  | 77 => ⟨S64x1x1x256, .f32⟩
  | 78 => ⟨S64x1x1x256, .f32⟩
  | 79 => ⟨S64x1x1x256, .f32⟩
  | 80 => ⟨S64x1x1x256, .f32⟩
  | 81 => ⟨S1x1x1x1, .f32⟩
  | 82 => ⟨S_, .f32⟩
  | 83 => ⟨S64x1x1x256, .f32⟩
  | 84 => ⟨S64x1x1x256, .f32⟩
  | 85 => ⟨S64x1x1x256, .f32⟩
  | 86 => ⟨S64x1x1x256, .f32⟩
  | 87 => ⟨S1x1x1x1, .f32⟩
  | 88 => ⟨S_, .f32⟩
  | 89 => ⟨S64x1x1x256, .f32⟩
  | 90 => ⟨S64x1x1x256, .f32⟩
  | 91 => ⟨S64x1x1x256, .f32⟩
  | 92 => ⟨S64x1x1x256, .f32⟩
  | 93 => ⟨S1x1x1x1, .f32⟩
  | 94 => ⟨S_, .f32⟩
  | 95 => ⟨S64x1x1x256, .f32⟩
  | 96 => ⟨S64x1x1x256, .f32⟩
  | 97 => ⟨S64x1x1x256, .f32⟩
  | 98 => ⟨S64x1x1x256, .f32⟩
  | 99 => ⟨S1x1x1x1, .f32⟩
  | 100 => ⟨S_, .f32⟩
  | 101 => ⟨S64x1x1x256, .f32⟩
  | 102 => ⟨S64x1x1x256, .f32⟩
  | 103 => ⟨S64x1x1x256, .f32⟩
  | 104 => ⟨S64x1x1x256, .f32⟩
  | 105 => ⟨S1x1x1x1, .f32⟩
  | 106 => ⟨S_, .f32⟩
  | 107 => ⟨S64x1x1x256, .f32⟩
  | 108 => ⟨S64x1x1x256, .f32⟩
  | 109 => ⟨S64x1x1x256, .f32⟩
  | 110 => ⟨S64x1x1x256, .f32⟩
  | 111 => ⟨S1x1x1x1, .f32⟩
  | 112 => ⟨S_, .f32⟩
  | 113 => ⟨S64x1x1x256, .f32⟩
  | 114 => ⟨S64x1x1x256, .f32⟩
  | 115 => ⟨S64x1x1x256, .f32⟩
  | 116 => ⟨S64x1x1x256, .f32⟩
  | 117 => ⟨S1x1x1x1, .f32⟩
  | 118 => ⟨S64x1x1x256, .f32⟩
  | 119 => ⟨S64x1x1x256, .f32⟩
  | 120 => ⟨S_, .i32⟩
  | 121 => ⟨S_, .f32⟩
  | 122 => ⟨S64x1x7x262, .f32⟩
  | 123 => ⟨S_, .f32⟩
  | 124 => ⟨S64x1x1x256, .f32⟩
  | 125 => ⟨S1x1x1x1, .f32⟩
  | 126 => ⟨S_, .f32⟩
  | 127 => ⟨S64x1x1x256, .f32⟩
  | _ => ⟨S64x256x25x25, .f32⟩

abbrev hbmTy0_2 (i : Nat) : BufTy := match i % 128 with
  | 0 => ⟨S64x1x1x256, .f32⟩
  | 1 => ⟨S64x1x1x256, .f32⟩
  | 2 => ⟨S64x1x1x256, .f32⟩
  | 3 => ⟨S1x1x1x1, .f32⟩
  | 4 => ⟨S_, .f32⟩
  | 5 => ⟨S64x1x1x256, .f32⟩
  | 6 => ⟨S64x1x1x256, .f32⟩
  | 7 => ⟨S64x1x1x256, .f32⟩
  | 8 => ⟨S64x1x1x256, .f32⟩
  | 9 => ⟨S1x1x1x1, .f32⟩
  | 10 => ⟨S_, .f32⟩
  | 11 => ⟨S64x1x1x256, .f32⟩
  | 12 => ⟨S64x1x1x256, .f32⟩
  | 13 => ⟨S64x1x1x256, .f32⟩
  | 14 => ⟨S64x1x1x256, .f32⟩
  | 15 => ⟨S1x1x1x1, .f32⟩
  | 16 => ⟨S_, .f32⟩
  | 17 => ⟨S64x1x1x256, .f32⟩
  | 18 => ⟨S64x1x1x256, .f32⟩
  | 19 => ⟨S64x1x1x256, .f32⟩
  | 20 => ⟨S64x1x1x256, .f32⟩
  | 21 => ⟨S1x1x1x1, .f32⟩
  | 22 => ⟨S_, .f32⟩
  | 23 => ⟨S64x1x1x256, .f32⟩
  | 24 => ⟨S64x1x1x256, .f32⟩
  | 25 => ⟨S64x1x1x256, .f32⟩
  | 26 => ⟨S64x1x1x256, .f32⟩
  | 27 => ⟨S1x1x1x1, .f32⟩
  | 28 => ⟨S_, .f32⟩
  | 29 => ⟨S64x1x1x256, .f32⟩
  | 30 => ⟨S64x1x1x256, .f32⟩
  | 31 => ⟨S64x1x1x256, .f32⟩
  | 32 => ⟨S64x1x1x256, .f32⟩
  | 33 => ⟨S1x1x1x1, .f32⟩
  | 34 => ⟨S_, .f32⟩
  | 35 => ⟨S64x1x1x256, .f32⟩
  | 36 => ⟨S64x1x1x256, .f32⟩
  | 37 => ⟨S64x1x1x256, .f32⟩
  | 38 => ⟨S64x1x1x256, .f32⟩
  | 39 => ⟨S1x1x1x1, .f32⟩
  | 40 => ⟨S_, .f32⟩
  | 41 => ⟨S64x1x1x256, .f32⟩
  | 42 => ⟨S64x1x1x256, .f32⟩
  | 43 => ⟨S64x1x1x256, .f32⟩
  | 44 => ⟨S64x1x1x256, .f32⟩
  | 45 => ⟨S1x1x1x1, .f32⟩
  | 46 => ⟨S_, .f32⟩
  | 47 => ⟨S64x1x1x256, .f32⟩
  | 48 => ⟨S64x1x1x256, .f32⟩
  | 49 => ⟨S64x1x1x256, .f32⟩
  | 50 => ⟨S64x1x1x256, .f32⟩
  | 51 => ⟨S1x1x1x1, .f32⟩
  | 52 => ⟨S_, .f32⟩
  | 53 => ⟨S64x1x1x256, .f32⟩
  | 54 => ⟨S64x1x1x256, .f32⟩
  | 55 => ⟨S64x1x1x256, .f32⟩
  | 56 => ⟨S64x1x1x256, .f32⟩
  | 57 => ⟨S1x1x1x1, .f32⟩
  | 58 => ⟨S_, .f32⟩
  | 59 => ⟨S64x1x1x256, .f32⟩
  | 60 => ⟨S64x1x1x256, .f32⟩
  | 61 => ⟨S64x1x1x256, .f32⟩
  | 62 => ⟨S64x1x1x256, .f32⟩
  | 63 => ⟨S1x1x1x1, .f32⟩
  | 64 => ⟨S_, .f32⟩
  | 65 => ⟨S64x1x1x256, .f32⟩
  | 66 => ⟨S64x1x1x256, .f32⟩
  | 67 => ⟨S64x1x1x256, .f32⟩
  | 68 => ⟨S64x1x1x256, .f32⟩
  | 69 => ⟨S1x1x1x1, .f32⟩
  | 70 => ⟨S_, .f32⟩
  | 71 => ⟨S64x1x1x256, .f32⟩
  | 72 => ⟨S64x1x1x256, .f32⟩
  | 73 => ⟨S64x1x1x256, .f32⟩
  | 74 => ⟨S64x1x1x256, .f32⟩
  | 75 => ⟨S1x1x1x1, .f32⟩
  | 76 => ⟨S_, .f32⟩
  | 77 => ⟨S64x1x1x256, .f32⟩
  | 78 => ⟨S64x1x1x256, .f32⟩
  | 79 => ⟨S64x1x1x256, .f32⟩
  | 80 => ⟨S64x1x1x256, .f32⟩
  | 81 => ⟨S1x1x1x1, .f32⟩
  | 82 => ⟨S_, .f32⟩
  | 83 => ⟨S64x1x1x256, .f32⟩
  | 84 => ⟨S64x1x1x256, .f32⟩
  | 85 => ⟨S64x1x1x256, .f32⟩
  | 86 => ⟨S64x1x1x256, .f32⟩
  | 87 => ⟨S1x1x1x1, .f32⟩
  | 88 => ⟨S_, .f32⟩
  | 89 => ⟨S64x1x1x256, .f32⟩
  | 90 => ⟨S64x1x1x256, .f32⟩
  | 91 => ⟨S64x1x1x256, .f32⟩
  | 92 => ⟨S64x1x1x256, .f32⟩
  | 93 => ⟨S1x1x1x1, .f32⟩
  | 94 => ⟨S_, .f32⟩
  | 95 => ⟨S64x1x1x256, .f32⟩
  | 96 => ⟨S64x1x1x256, .f32⟩
  | 97 => ⟨S64x1x1x256, .f32⟩
  | 98 => ⟨S64x1x1x256, .f32⟩
  | 99 => ⟨S1x1x1x1, .f32⟩
  | 100 => ⟨S_, .f32⟩
  | 101 => ⟨S64x1x1x256, .f32⟩
  | 102 => ⟨S64x1x1x256, .f32⟩
  | 103 => ⟨S64x1x1x256, .f32⟩
  | 104 => ⟨S64x1x1x256, .f32⟩
  | 105 => ⟨S1x1x1x1, .f32⟩
  | 106 => ⟨S_, .f32⟩
  | 107 => ⟨S64x1x1x256, .f32⟩
  | 108 => ⟨S64x1x1x256, .f32⟩
  | 109 => ⟨S64x1x1x256, .f32⟩
  | 110 => ⟨S64x1x1x256, .f32⟩
  | 111 => ⟨S1x1x1x1, .f32⟩
  | 112 => ⟨S_, .f32⟩
  | 113 => ⟨S64x1x1x256, .f32⟩
  | 114 => ⟨S64x1x1x256, .f32⟩
  | 115 => ⟨S64x1x1x256, .f32⟩
  | 116 => ⟨S64x1x1x256, .f32⟩
  | 117 => ⟨S1x1x1x1, .f32⟩
  | 118 => ⟨S_, .f32⟩
  | 119 => ⟨S64x1x1x256, .f32⟩
  | 120 => ⟨S64x1x1x256, .f32⟩
  | 121 => ⟨S64x1x1x256, .f32⟩
  | 122 => ⟨S64x1x1x256, .f32⟩
  | 123 => ⟨S1x1x1x1, .f32⟩
  | 124 => ⟨S_, .f32⟩
  | 125 => ⟨S64x1x1x256, .f32⟩
  | 126 => ⟨S64x1x1x256, .f32⟩
  | 127 => ⟨S64x1x1x256, .f32⟩
  | _ => ⟨S64x256x25x25, .f32⟩

abbrev hbmTy0_3 (i : Nat) : BufTy := match i % 128 with
  | 0 => ⟨S64x1x1x256, .f32⟩
  | 1 => ⟨S1x1x1x1, .f32⟩
  | 2 => ⟨S_, .f32⟩
  | 3 => ⟨S64x1x1x256, .f32⟩
  | 4 => ⟨S64x1x1x256, .f32⟩
  | 5 => ⟨S64x1x1x256, .f32⟩
  | 6 => ⟨S64x1x1x256, .f32⟩
  | 7 => ⟨S1x1x1x1, .f32⟩
  | 8 => ⟨S_, .f32⟩
  | 9 => ⟨S64x1x1x256, .f32⟩
  | 10 => ⟨S64x1x1x256, .f32⟩
  | 11 => ⟨S64x1x1x256, .f32⟩
  | 12 => ⟨S64x1x1x256, .f32⟩
  | 13 => ⟨S1x1x1x1, .f32⟩
  | 14 => ⟨S_, .f32⟩
  | 15 => ⟨S64x1x1x256, .f32⟩
  | 16 => ⟨S64x1x1x256, .f32⟩
  | 17 => ⟨S64x1x1x256, .f32⟩
  | 18 => ⟨S64x1x1x256, .f32⟩
  | 19 => ⟨S1x1x1x1, .f32⟩
  | 20 => ⟨S_, .f32⟩
  | 21 => ⟨S64x1x1x256, .f32⟩
  | 22 => ⟨S64x1x1x256, .f32⟩
  | 23 => ⟨S64x1x1x256, .f32⟩
  | 24 => ⟨S64x1x1x256, .f32⟩
  | 25 => ⟨S1x1x1x1, .f32⟩
  | 26 => ⟨S_, .f32⟩
  | 27 => ⟨S64x1x1x256, .f32⟩
  | 28 => ⟨S64x1x1x256, .f32⟩
  | 29 => ⟨S64x1x1x256, .f32⟩
  | 30 => ⟨S64x1x1x256, .f32⟩
  | 31 => ⟨S1x1x1x1, .f32⟩
  | 32 => ⟨S_, .f32⟩
  | 33 => ⟨S64x1x1x256, .f32⟩
  | 34 => ⟨S64x1x1x256, .f32⟩
  | 35 => ⟨S64x1x1x256, .f32⟩
  | 36 => ⟨S64x1x1x256, .f32⟩
  | 37 => ⟨S1x1x1x1, .f32⟩
  | 38 => ⟨S_, .f32⟩
  | 39 => ⟨S64x1x1x256, .f32⟩
  | 40 => ⟨S64x1x1x256, .f32⟩
  | 41 => ⟨S64x1x1x256, .f32⟩
  | 42 => ⟨S64x1x1x256, .f32⟩
  | 43 => ⟨S1x1x1x1, .f32⟩
  | 44 => ⟨S_, .f32⟩
  | 45 => ⟨S64x1x1x256, .f32⟩
  | 46 => ⟨S64x1x1x256, .f32⟩
  | 47 => ⟨S64x1x1x256, .f32⟩
  | 48 => ⟨S64x1x1x256, .f32⟩
  | 49 => ⟨S1x1x1x1, .f32⟩
  | 50 => ⟨S_, .f32⟩
  | 51 => ⟨S64x1x1x256, .f32⟩
  | 52 => ⟨S64x1x1x256, .f32⟩
  | 53 => ⟨S64x1x1x256, .f32⟩
  | 54 => ⟨S64x1x1x256, .f32⟩
  | 55 => ⟨S1x1x1x1, .f32⟩
  | 56 => ⟨S_, .f32⟩
  | 57 => ⟨S64x1x1x256, .f32⟩
  | 58 => ⟨S64x1x1x256, .f32⟩
  | 59 => ⟨S64x1x1x256, .f32⟩
  | 60 => ⟨S64x1x1x256, .f32⟩
  | 61 => ⟨S1x1x1x1, .f32⟩
  | 62 => ⟨S_, .f32⟩
  | 63 => ⟨S64x1x1x256, .f32⟩
  | 64 => ⟨S64x1x1x256, .f32⟩
  | 65 => ⟨S64x1x1x256, .f32⟩
  | 66 => ⟨S64x1x1x256, .f32⟩
  | 67 => ⟨S1x1x1x1, .f32⟩
  | 68 => ⟨S_, .f32⟩
  | 69 => ⟨S64x1x1x256, .f32⟩
  | 70 => ⟨S64x1x1x256, .f32⟩
  | 71 => ⟨S64x1x1x256, .f32⟩
  | 72 => ⟨S64x1x1x256, .f32⟩
  | 73 => ⟨S1x1x1x1, .f32⟩
  | 74 => ⟨S_, .f32⟩
  | 75 => ⟨S64x1x1x256, .f32⟩
  | 76 => ⟨S64x1x1x256, .f32⟩
  | 77 => ⟨S64x1x1x256, .f32⟩
  | 78 => ⟨S64x1x1x256, .f32⟩
  | 79 => ⟨S1x1x1x1, .f32⟩
  | 80 => ⟨S_, .f32⟩
  | 81 => ⟨S64x1x1x256, .f32⟩
  | 82 => ⟨S64x1x1x256, .f32⟩
  | 83 => ⟨S64x1x1x256, .f32⟩
  | 84 => ⟨S64x1x1x256, .f32⟩
  | 85 => ⟨S1x1x1x1, .f32⟩
  | 86 => ⟨S_, .f32⟩
  | 87 => ⟨S64x1x1x256, .f32⟩
  | 88 => ⟨S64x1x1x256, .f32⟩
  | 89 => ⟨S64x1x1x256, .f32⟩
  | 90 => ⟨S64x1x1x256, .f32⟩
  | 91 => ⟨S1x1x1x1, .f32⟩
  | 92 => ⟨S_, .f32⟩
  | 93 => ⟨S64x1x1x256, .f32⟩
  | 94 => ⟨S64x1x1x256, .f32⟩
  | 95 => ⟨S64x1x1x256, .f32⟩
  | 96 => ⟨S64x1x1x256, .f32⟩
  | 97 => ⟨S1x1x1x1, .f32⟩
  | 98 => ⟨S_, .f32⟩
  | 99 => ⟨S64x1x1x256, .f32⟩
  | 100 => ⟨S64x1x1x256, .f32⟩
  | 101 => ⟨S64x1x1x256, .f32⟩
  | 102 => ⟨S64x1x1x256, .f32⟩
  | 103 => ⟨S1x1x1x1, .f32⟩
  | 104 => ⟨S_, .f32⟩
  | 105 => ⟨S64x1x1x256, .f32⟩
  | 106 => ⟨S64x1x1x256, .f32⟩
  | 107 => ⟨S64x1x1x256, .f32⟩
  | 108 => ⟨S64x1x1x256, .f32⟩
  | 109 => ⟨S1x1x1x1, .f32⟩
  | 110 => ⟨S_, .f32⟩
  | 111 => ⟨S64x1x1x256, .f32⟩
  | 112 => ⟨S64x1x1x256, .f32⟩
  | 113 => ⟨S64x1x1x256, .f32⟩
  | 114 => ⟨S64x1x1x256, .f32⟩
  | 115 => ⟨S1x1x1x1, .f32⟩
  | 116 => ⟨S_, .f32⟩
  | 117 => ⟨S64x1x1x256, .f32⟩
  | 118 => ⟨S64x1x1x256, .f32⟩
  | 119 => ⟨S64x1x1x256, .f32⟩
  | 120 => ⟨S64x1x1x256, .f32⟩
  | 121 => ⟨S1x1x1x1, .f32⟩
  | 122 => ⟨S_, .f32⟩
  | 123 => ⟨S64x1x1x256, .f32⟩
  | 124 => ⟨S64x1x1x256, .f32⟩
  | 125 => ⟨S64x1x1x256, .f32⟩
  | 126 => ⟨S64x1x1x256, .f32⟩
  | 127 => ⟨S1x1x1x1, .f32⟩
  | _ => ⟨S64x256x25x25, .f32⟩

abbrev hbmTy0_4 (i : Nat) : BufTy := match i % 128 with
  | 0 => ⟨S_, .f32⟩
  | 1 => ⟨S64x1x1x256, .f32⟩
  | 2 => ⟨S64x1x1x256, .f32⟩
  | 3 => ⟨S64x1x1x256, .f32⟩
  | 4 => ⟨S64x1x1x256, .f32⟩
  | 5 => ⟨S1x1x1x1, .f32⟩
  | 6 => ⟨S_, .f32⟩
  | 7 => ⟨S64x1x1x256, .f32⟩
  | 8 => ⟨S64x1x1x256, .f32⟩
  | 9 => ⟨S64x1x1x256, .f32⟩
  | 10 => ⟨S64x1x1x256, .f32⟩
  | 11 => ⟨S1x1x1x1, .f32⟩
  | 12 => ⟨S_, .f32⟩
  | 13 => ⟨S64x1x1x256, .f32⟩
  | 14 => ⟨S64x1x1x256, .f32⟩
  | 15 => ⟨S64x1x1x256, .f32⟩
  | 16 => ⟨S64x1x1x256, .f32⟩
  | 17 => ⟨S1x1x1x1, .f32⟩
  | 18 => ⟨S_, .f32⟩
  | 19 => ⟨S64x1x1x256, .f32⟩
  | 20 => ⟨S64x1x1x256, .f32⟩
  | 21 => ⟨S64x1x1x256, .f32⟩
  | 22 => ⟨S64x1x1x256, .f32⟩
  | 23 => ⟨S1x1x1x1, .f32⟩
  | 24 => ⟨S_, .f32⟩
  | 25 => ⟨S64x1x1x256, .f32⟩
  | 26 => ⟨S64x1x1x256, .f32⟩
  | 27 => ⟨S64x1x1x256, .f32⟩
  | 28 => ⟨S64x1x1x256, .f32⟩
  | 29 => ⟨S1x1x1x1, .f32⟩
  | 30 => ⟨S_, .f32⟩
  | 31 => ⟨S64x1x1x256, .f32⟩
  | 32 => ⟨S64x1x1x256, .f32⟩
  | 33 => ⟨S64x1x1x256, .f32⟩
  | 34 => ⟨S64x1x1x256, .f32⟩
  | 35 => ⟨S1x1x1x1, .f32⟩
  | 36 => ⟨S64x1x1x256, .f32⟩
  | 37 => ⟨S64x1x1x256, .f32⟩
  | 38 => ⟨S64x256x1x1, .f32⟩
  | 39 => ⟨S64x256x1x1, .f32⟩
  | 40 => ⟨S64x256x1x1, .f32⟩
  | 41 => ⟨S64x256x1x1, .f32⟩
  | 42 => ⟨S64x256x1x1, .f32⟩
  | 43 => ⟨S64x256x1x1, .f32⟩
  | 44 => ⟨S64x256, .f32⟩
  | 45 => ⟨S16x256, .f32⟩
  | 46 => ⟨S64x16, .f32⟩
  | 47 => ⟨S64x16x1x1, .f32⟩
  | 48 => ⟨S1x16x1x1, .f32⟩
  | 49 => ⟨S64x16x1x1, .f32⟩
  | 50 => ⟨S64x16x1x1, .f32⟩
  | 51 => ⟨S_, .f32⟩
  | 52 => ⟨S64x16x1x1, .f32⟩
  | 53 => ⟨S64x16x1x1, .f32⟩
  | 54 => ⟨S64x16, .f32⟩
  | 55 => ⟨S256x16, .f32⟩
  | 56 => ⟨S64x256, .f32⟩
  | 57 => ⟨S64x256x1x1, .f32⟩
  | 58 => ⟨S1x256x1x1, .f32⟩
  | 59 => ⟨S64x256x1x1, .f32⟩
  | 60 => ⟨S64x256x1x1, .f32⟩
  | 61 => ⟨S64x256x1x1, .f32⟩
  | 62 => ⟨S64x256x1x1, .f32⟩
  | 63 => ⟨S_, .f32⟩
  | 64 => ⟨S64x256x1x1, .f32⟩
  | 65 => ⟨S64x256x1x1, .f32⟩
  | 66 => ⟨S_, .f32⟩
  | 67 => ⟨S64x256x1x1, .f32⟩
  | 68 => ⟨S64x256x1x1, .f32⟩
  | 69 => ⟨S64x256x25x25, .f32⟩
  | 70 => ⟨S64x256x25x25, .f32⟩
  | 71 => ⟨S_, .i32⟩
  | 72 => ⟨S64x100, .i32⟩
  | 73 => ⟨S64x100, .i32⟩
  | 74 => ⟨S64x100, .i32⟩
  | 75 => ⟨S_, .i32⟩
  | 76 => ⟨S64x100, .i32⟩
  | 77 => ⟨S64x100, .i32⟩
  | 78 => ⟨S64x100x1, .i32⟩
  | 79 => ⟨S64x100x1, .i32⟩
  | 80 => ⟨S_, .i32⟩
  | 81 => ⟨S64x100x1, .i32⟩
  | 82 => ⟨S_, .i32⟩
  | 83 => ⟨S64x100x1, .i32⟩
  | 84 => ⟨S64x100x4, .i32⟩
  | 85 => ⟨S64x100x3x3, .f32⟩
  | 86 => ⟨S_, .i32⟩
  | 87 => ⟨S64x100, .i32⟩
  | 88 => ⟨S64x100, .i32⟩
  | 89 => ⟨S64x100, .i32⟩
  | 90 => ⟨S_, .i32⟩
  | 91 => ⟨S64x100, .i32⟩
  | 92 => ⟨S64x100, .i32⟩
  | 93 => ⟨S64x100x1, .i32⟩
  | 94 => ⟨S64x100x1, .i32⟩
  | 95 => ⟨S_, .i32⟩
  | 96 => ⟨S64x100x1, .i32⟩
  | 97 => ⟨S_, .i32⟩
  | 98 => ⟨S64x100x1, .i32⟩
  | 99 => ⟨S64x100x4, .i32⟩
  | 100 => ⟨S64x100x3x3, .f32⟩
  | 101 => ⟨S_, .i32⟩
  | 102 => ⟨S64x100, .i32⟩
  | 103 => ⟨S64x100, .i32⟩
  | 104 => ⟨S64x100, .i32⟩
  | 105 => ⟨S_, .i32⟩
  | 106 => ⟨S64x100, .i32⟩
  | 107 => ⟨S64x100, .i32⟩
  | 108 => ⟨S64x100x1, .i32⟩
  | 109 => ⟨S64x100x1, .i32⟩
  | 110 => ⟨S_, .i32⟩
  | 111 => ⟨S64x100x1, .i32⟩
  | 112 => ⟨S_, .i32⟩
  | 113 => ⟨S64x100x1, .i32⟩
  | 114 => ⟨S64x100x4, .i32⟩
  | 115 => ⟨S64x100x3x3, .f32⟩
  | 116 => ⟨S_, .i32⟩
  | 117 => ⟨S64x100, .i32⟩
  | 118 => ⟨S64x100, .i32⟩
  | 119 => ⟨S64x100, .i32⟩
  | 120 => ⟨S_, .i32⟩
  | 121 => ⟨S64x100, .i32⟩
  | 122 => ⟨S64x100, .i32⟩
  | 123 => ⟨S64x100x1, .i32⟩
  | 124 => ⟨S64x100x1, .i32⟩
  | 125 => ⟨S_, .i32⟩
  | 126 => ⟨S64x100x1, .i32⟩
  | 127 => ⟨S_, .i32⟩
  | _ => ⟨S64x256x25x25, .f32⟩

abbrev hbmTy0_5 (i : Nat) : BufTy := match i % 128 with
  | 0 => ⟨S64x100x1, .i32⟩
  | 1 => ⟨S64x100x4, .i32⟩
  | 2 => ⟨S64x100x3x3, .f32⟩
  | 3 => ⟨S_, .i32⟩
  | 4 => ⟨S64x100, .i32⟩
  | 5 => ⟨S64x100, .i32⟩
  | 6 => ⟨S64x100, .i32⟩
  | 7 => ⟨S_, .i32⟩
  | 8 => ⟨S64x100, .i32⟩
  | 9 => ⟨S64x100, .i32⟩
  | 10 => ⟨S64x100x1, .i32⟩
  | 11 => ⟨S64x100x1, .i32⟩
  | 12 => ⟨S_, .i32⟩
  | 13 => ⟨S64x100x1, .i32⟩
  | 14 => ⟨S_, .i32⟩
  | 15 => ⟨S64x100x1, .i32⟩
  | 16 => ⟨S64x100x4, .i32⟩
  | 17 => ⟨S64x100x3x3, .f32⟩
  | 18 => ⟨S64x1x100x3x3, .f32⟩
  | 19 => ⟨S64x1x100x3x3, .f32⟩
  | 20 => ⟨S64x1x100x3x3, .f32⟩
  | 21 => ⟨S64x1x100x3x3, .f32⟩
  | 22 => ⟨S64x1x100x3x3, .f32⟩
  | 23 => ⟨S64x5x100x3x3, .f32⟩
  | _ => ⟨S64x256x25x25, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x256x25x25, .f32⟩

abbrev bufTy : (tb : Table) → Fin (tcTables nBuf tb) → BufTy
  | .hbm, ⟨i, _⟩ => hbmTy i
  | _, _ => ⟨S64x256x25x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_c_4 : Ref sig .tc := ⟨.hbm, 16, rfl⟩
abbrev main_c_5 : Ref sig .tc := ⟨.hbm, 17, rfl⟩
abbrev main_c_6 : Ref sig .tc := ⟨.hbm, 18, rfl⟩
abbrev main_c_7 : Ref sig .tc := ⟨.hbm, 19, rfl⟩
abbrev main_c_8 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_9 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_10 : Ref sig .tc := ⟨.hbm, 28, rfl⟩
abbrev main_call0_v0 : Ref sig .tc := ⟨.hbm, 29, rfl⟩
abbrev main_v5 : Ref sig .tc := ⟨.hbm, 30, rfl⟩
abbrev main_cst_11 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_call1_v0 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_c_14 : Ref sig .tc := ⟨.hbm, 248, rfl⟩
abbrev main_call2_v0 : Ref sig .tc := ⟨.hbm, 249, rfl⟩
abbrev main_v219 : Ref sig .tc := ⟨.hbm, 250, rfl⟩
abbrev main_cst_15 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev main_v309 : Ref sig .tc := ⟨.hbm, 341, rfl⟩
abbrev main_v310 : Ref sig .tc := ⟨.hbm, 342, rfl⟩
abbrev main_v311 : Ref sig .tc := ⟨.hbm, 343, rfl⟩
abbrev main_v312 : Ref sig .tc := ⟨.hbm, 344, rfl⟩
abbrev main_v313 : Ref sig .tc := ⟨.hbm, 345, rfl⟩
abbrev main_v314 : Ref sig .tc := ⟨.hbm, 346, rfl⟩
abbrev main_v315 : Ref sig .tc := ⟨.hbm, 347, rfl⟩
abbrev main_v316 : Ref sig .tc := ⟨.hbm, 348, rfl⟩
abbrev main_v317 : Ref sig .tc := ⟨.hbm, 349, rfl⟩
abbrev main_v318 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_v329 : Ref sig .tc := ⟨.hbm, 361, rfl⟩
abbrev main_v330 : Ref sig .tc := ⟨.hbm, 362, rfl⟩
abbrev main_v331 : Ref sig .tc := ⟨.hbm, 363, rfl⟩
abbrev main_v332 : Ref sig .tc := ⟨.hbm, 364, rfl⟩
abbrev main_v333 : Ref sig .tc := ⟨.hbm, 365, rfl⟩
abbrev main_v334 : Ref sig .tc := ⟨.hbm, 366, rfl⟩
abbrev main_v335 : Ref sig .tc := ⟨.hbm, 367, rfl⟩
abbrev main_v336 : Ref sig .tc := ⟨.hbm, 368, rfl⟩
abbrev main_v337 : Ref sig .tc := ⟨.hbm, 369, rfl⟩
abbrev main_v338 : Ref sig .tc := ⟨.hbm, 370, rfl⟩
abbrev main_v339 : Ref sig .tc := ⟨.hbm, 371, rfl⟩
abbrev main_v340 : Ref sig .tc := ⟨.hbm, 372, rfl⟩
abbrev main_v341 : Ref sig .tc := ⟨.hbm, 373, rfl⟩
abbrev main_v342 : Ref sig .tc := ⟨.hbm, 374, rfl⟩
abbrev main_v343 : Ref sig .tc := ⟨.hbm, 375, rfl⟩
abbrev main_v344 : Ref sig .tc := ⟨.hbm, 376, rfl⟩
abbrev main_v345 : Ref sig .tc := ⟨.hbm, 377, rfl⟩
abbrev main_v346 : Ref sig .tc := ⟨.hbm, 378, rfl⟩
abbrev main_v347 : Ref sig .tc := ⟨.hbm, 379, rfl⟩
abbrev main_v348 : Ref sig .tc := ⟨.hbm, 380, rfl⟩
abbrev main_v349 : Ref sig .tc := ⟨.hbm, 381, rfl⟩
abbrev main_v350 : Ref sig .tc := ⟨.hbm, 382, rfl⟩
abbrev main_v351 : Ref sig .tc := ⟨.hbm, 383, rfl⟩
abbrev main_v352 : Ref sig .tc := ⟨.hbm, 384, rfl⟩
abbrev main_v353 : Ref sig .tc := ⟨.hbm, 385, rfl⟩
abbrev main_v354 : Ref sig .tc := ⟨.hbm, 386, rfl⟩
abbrev main_v355 : Ref sig .tc := ⟨.hbm, 387, rfl⟩
abbrev main_v356 : Ref sig .tc := ⟨.hbm, 388, rfl⟩
abbrev main_v357 : Ref sig .tc := ⟨.hbm, 389, rfl⟩
abbrev main_v358 : Ref sig .tc := ⟨.hbm, 390, rfl⟩
abbrev main_v359 : Ref sig .tc := ⟨.hbm, 391, rfl⟩
abbrev main_v360 : Ref sig .tc := ⟨.hbm, 392, rfl⟩
abbrev main_v361 : Ref sig .tc := ⟨.hbm, 393, rfl⟩
abbrev main_v362 : Ref sig .tc := ⟨.hbm, 394, rfl⟩
abbrev main_v363 : Ref sig .tc := ⟨.hbm, 395, rfl⟩
abbrev main_v364 : Ref sig .tc := ⟨.hbm, 396, rfl⟩
abbrev main_v365 : Ref sig .tc := ⟨.hbm, 397, rfl⟩
abbrev main_v366 : Ref sig .tc := ⟨.hbm, 398, rfl⟩
abbrev main_v367 : Ref sig .tc := ⟨.hbm, 399, rfl⟩
abbrev main_v368 : Ref sig .tc := ⟨.hbm, 400, rfl⟩
abbrev main_v369 : Ref sig .tc := ⟨.hbm, 401, rfl⟩
abbrev main_v370 : Ref sig .tc := ⟨.hbm, 402, rfl⟩
abbrev main_v371 : Ref sig .tc := ⟨.hbm, 403, rfl⟩
abbrev main_v372 : Ref sig .tc := ⟨.hbm, 404, rfl⟩
abbrev main_v373 : Ref sig .tc := ⟨.hbm, 405, rfl⟩
abbrev main_v374 : Ref sig .tc := ⟨.hbm, 406, rfl⟩
abbrev main_v375 : Ref sig .tc := ⟨.hbm, 407, rfl⟩
abbrev main_v376 : Ref sig .tc := ⟨.hbm, 408, rfl⟩
abbrev main_v377 : Ref sig .tc := ⟨.hbm, 409, rfl⟩
abbrev main_v378 : Ref sig .tc := ⟨.hbm, 410, rfl⟩
abbrev main_v379 : Ref sig .tc := ⟨.hbm, 411, rfl⟩
abbrev main_v380 : Ref sig .tc := ⟨.hbm, 412, rfl⟩
abbrev main_v381 : Ref sig .tc := ⟨.hbm, 413, rfl⟩
abbrev main_v382 : Ref sig .tc := ⟨.hbm, 414, rfl⟩
abbrev main_v383 : Ref sig .tc := ⟨.hbm, 415, rfl⟩
abbrev main_v384 : Ref sig .tc := ⟨.hbm, 416, rfl⟩
abbrev main_v385 : Ref sig .tc := ⟨.hbm, 417, rfl⟩
abbrev main_v386 : Ref sig .tc := ⟨.hbm, 418, rfl⟩
abbrev main_v387 : Ref sig .tc := ⟨.hbm, 419, rfl⟩
abbrev main_v388 : Ref sig .tc := ⟨.hbm, 420, rfl⟩
abbrev main_v389 : Ref sig .tc := ⟨.hbm, 421, rfl⟩
abbrev main_v390 : Ref sig .tc := ⟨.hbm, 422, rfl⟩
abbrev main_v391 : Ref sig .tc := ⟨.hbm, 423, rfl⟩
abbrev main_v392 : Ref sig .tc := ⟨.hbm, 424, rfl⟩
abbrev main_v393 : Ref sig .tc := ⟨.hbm, 425, rfl⟩
abbrev main_v394 : Ref sig .tc := ⟨.hbm, 426, rfl⟩
abbrev main_v395 : Ref sig .tc := ⟨.hbm, 427, rfl⟩
abbrev main_v396 : Ref sig .tc := ⟨.hbm, 428, rfl⟩
abbrev main_v397 : Ref sig .tc := ⟨.hbm, 429, rfl⟩
abbrev main_v398 : Ref sig .tc := ⟨.hbm, 430, rfl⟩
abbrev main_v399 : Ref sig .tc := ⟨.hbm, 431, rfl⟩
abbrev main_v400 : Ref sig .tc := ⟨.hbm, 432, rfl⟩
abbrev main_v401 : Ref sig .tc := ⟨.hbm, 433, rfl⟩
abbrev main_v402 : Ref sig .tc := ⟨.hbm, 434, rfl⟩
abbrev main_v403 : Ref sig .tc := ⟨.hbm, 435, rfl⟩
abbrev main_v404 : Ref sig .tc := ⟨.hbm, 436, rfl⟩
abbrev main_v405 : Ref sig .tc := ⟨.hbm, 437, rfl⟩
abbrev main_v406 : Ref sig .tc := ⟨.hbm, 438, rfl⟩
abbrev main_v407 : Ref sig .tc := ⟨.hbm, 439, rfl⟩
abbrev main_v408 : Ref sig .tc := ⟨.hbm, 440, rfl⟩
abbrev main_v409 : Ref sig .tc := ⟨.hbm, 441, rfl⟩
abbrev main_v410 : Ref sig .tc := ⟨.hbm, 442, rfl⟩
abbrev main_v411 : Ref sig .tc := ⟨.hbm, 443, rfl⟩
abbrev main_v412 : Ref sig .tc := ⟨.hbm, 444, rfl⟩
abbrev main_v413 : Ref sig .tc := ⟨.hbm, 445, rfl⟩
abbrev main_v414 : Ref sig .tc := ⟨.hbm, 446, rfl⟩
abbrev main_v415 : Ref sig .tc := ⟨.hbm, 447, rfl⟩
abbrev main_v416 : Ref sig .tc := ⟨.hbm, 448, rfl⟩
abbrev main_v417 : Ref sig .tc := ⟨.hbm, 449, rfl⟩
abbrev main_v418 : Ref sig .tc := ⟨.hbm, 450, rfl⟩
abbrev main_v419 : Ref sig .tc := ⟨.hbm, 451, rfl⟩
abbrev main_v420 : Ref sig .tc := ⟨.hbm, 452, rfl⟩
abbrev main_v421 : Ref sig .tc := ⟨.hbm, 453, rfl⟩
abbrev main_v422 : Ref sig .tc := ⟨.hbm, 454, rfl⟩
abbrev main_v423 : Ref sig .tc := ⟨.hbm, 455, rfl⟩
abbrev main_v424 : Ref sig .tc := ⟨.hbm, 456, rfl⟩
abbrev main_v425 : Ref sig .tc := ⟨.hbm, 457, rfl⟩
abbrev main_v426 : Ref sig .tc := ⟨.hbm, 458, rfl⟩
abbrev main_v427 : Ref sig .tc := ⟨.hbm, 459, rfl⟩
abbrev main_v428 : Ref sig .tc := ⟨.hbm, 460, rfl⟩
abbrev main_v429 : Ref sig .tc := ⟨.hbm, 461, rfl⟩
abbrev main_v430 : Ref sig .tc := ⟨.hbm, 462, rfl⟩
abbrev main_v431 : Ref sig .tc := ⟨.hbm, 463, rfl⟩
abbrev main_v432 : Ref sig .tc := ⟨.hbm, 464, rfl⟩
abbrev main_v433 : Ref sig .tc := ⟨.hbm, 465, rfl⟩
abbrev main_v434 : Ref sig .tc := ⟨.hbm, 466, rfl⟩
abbrev main_v435 : Ref sig .tc := ⟨.hbm, 467, rfl⟩
abbrev main_v436 : Ref sig .tc := ⟨.hbm, 468, rfl⟩
abbrev main_v437 : Ref sig .tc := ⟨.hbm, 469, rfl⟩
abbrev main_v438 : Ref sig .tc := ⟨.hbm, 470, rfl⟩
abbrev main_v439 : Ref sig .tc := ⟨.hbm, 471, rfl⟩
abbrev main_v440 : Ref sig .tc := ⟨.hbm, 472, rfl⟩
abbrev main_v441 : Ref sig .tc := ⟨.hbm, 473, rfl⟩
abbrev main_v442 : Ref sig .tc := ⟨.hbm, 474, rfl⟩
abbrev main_v443 : Ref sig .tc := ⟨.hbm, 475, rfl⟩
abbrev main_v444 : Ref sig .tc := ⟨.hbm, 476, rfl⟩
abbrev main_v445 : Ref sig .tc := ⟨.hbm, 477, rfl⟩
abbrev main_v446 : Ref sig .tc := ⟨.hbm, 478, rfl⟩
abbrev main_v447 : Ref sig .tc := ⟨.hbm, 479, rfl⟩
abbrev main_v448 : Ref sig .tc := ⟨.hbm, 480, rfl⟩
abbrev main_v449 : Ref sig .tc := ⟨.hbm, 481, rfl⟩
abbrev main_v450 : Ref sig .tc := ⟨.hbm, 482, rfl⟩
abbrev main_v451 : Ref sig .tc := ⟨.hbm, 483, rfl⟩
abbrev main_v452 : Ref sig .tc := ⟨.hbm, 484, rfl⟩
abbrev main_v453 : Ref sig .tc := ⟨.hbm, 485, rfl⟩
abbrev main_v454 : Ref sig .tc := ⟨.hbm, 486, rfl⟩
abbrev main_v455 : Ref sig .tc := ⟨.hbm, 487, rfl⟩
abbrev main_v456 : Ref sig .tc := ⟨.hbm, 488, rfl⟩
abbrev main_v457 : Ref sig .tc := ⟨.hbm, 489, rfl⟩
abbrev main_v458 : Ref sig .tc := ⟨.hbm, 490, rfl⟩
abbrev main_v459 : Ref sig .tc := ⟨.hbm, 491, rfl⟩
abbrev main_v460 : Ref sig .tc := ⟨.hbm, 492, rfl⟩
abbrev main_v461 : Ref sig .tc := ⟨.hbm, 493, rfl⟩
abbrev main_v462 : Ref sig .tc := ⟨.hbm, 494, rfl⟩
abbrev main_v463 : Ref sig .tc := ⟨.hbm, 495, rfl⟩
abbrev main_v464 : Ref sig .tc := ⟨.hbm, 496, rfl⟩
abbrev main_v465 : Ref sig .tc := ⟨.hbm, 497, rfl⟩
abbrev main_v466 : Ref sig .tc := ⟨.hbm, 498, rfl⟩
abbrev main_v467 : Ref sig .tc := ⟨.hbm, 499, rfl⟩
abbrev main_v468 : Ref sig .tc := ⟨.hbm, 500, rfl⟩
abbrev main_v469 : Ref sig .tc := ⟨.hbm, 501, rfl⟩
abbrev main_v470 : Ref sig .tc := ⟨.hbm, 502, rfl⟩
abbrev main_v471 : Ref sig .tc := ⟨.hbm, 503, rfl⟩
abbrev main_v472 : Ref sig .tc := ⟨.hbm, 504, rfl⟩
abbrev main_v473 : Ref sig .tc := ⟨.hbm, 505, rfl⟩
abbrev main_v474 : Ref sig .tc := ⟨.hbm, 506, rfl⟩
abbrev main_v475 : Ref sig .tc := ⟨.hbm, 507, rfl⟩
abbrev main_v476 : Ref sig .tc := ⟨.hbm, 508, rfl⟩
abbrev main_v477 : Ref sig .tc := ⟨.hbm, 509, rfl⟩
abbrev main_v478 : Ref sig .tc := ⟨.hbm, 510, rfl⟩
abbrev main_v479 : Ref sig .tc := ⟨.hbm, 511, rfl⟩
abbrev main_v480 : Ref sig .tc := ⟨.hbm, 512, rfl⟩
abbrev main_v481 : Ref sig .tc := ⟨.hbm, 513, rfl⟩
abbrev main_v482 : Ref sig .tc := ⟨.hbm, 514, rfl⟩
abbrev main_v483 : Ref sig .tc := ⟨.hbm, 515, rfl⟩
abbrev main_v484 : Ref sig .tc := ⟨.hbm, 516, rfl⟩
abbrev main_v485 : Ref sig .tc := ⟨.hbm, 517, rfl⟩
abbrev main_v486 : Ref sig .tc := ⟨.hbm, 518, rfl⟩
abbrev main_v487 : Ref sig .tc := ⟨.hbm, 519, rfl⟩
abbrev main_v488 : Ref sig .tc := ⟨.hbm, 520, rfl⟩
abbrev main_v489 : Ref sig .tc := ⟨.hbm, 521, rfl⟩
abbrev main_v490 : Ref sig .tc := ⟨.hbm, 522, rfl⟩
abbrev main_v491 : Ref sig .tc := ⟨.hbm, 523, rfl⟩
abbrev main_v492 : Ref sig .tc := ⟨.hbm, 524, rfl⟩
abbrev main_v493 : Ref sig .tc := ⟨.hbm, 525, rfl⟩
abbrev main_v494 : Ref sig .tc := ⟨.hbm, 526, rfl⟩
abbrev main_v495 : Ref sig .tc := ⟨.hbm, 527, rfl⟩
abbrev main_v496 : Ref sig .tc := ⟨.hbm, 528, rfl⟩
abbrev main_v497 : Ref sig .tc := ⟨.hbm, 529, rfl⟩
abbrev main_v498 : Ref sig .tc := ⟨.hbm, 530, rfl⟩
abbrev main_v499 : Ref sig .tc := ⟨.hbm, 531, rfl⟩
abbrev main_v500 : Ref sig .tc := ⟨.hbm, 532, rfl⟩
abbrev main_v501 : Ref sig .tc := ⟨.hbm, 533, rfl⟩
abbrev main_v502 : Ref sig .tc := ⟨.hbm, 534, rfl⟩
abbrev main_v503 : Ref sig .tc := ⟨.hbm, 535, rfl⟩
abbrev main_v504 : Ref sig .tc := ⟨.hbm, 536, rfl⟩
abbrev main_v505 : Ref sig .tc := ⟨.hbm, 537, rfl⟩
abbrev main_v506 : Ref sig .tc := ⟨.hbm, 538, rfl⟩
abbrev main_v507 : Ref sig .tc := ⟨.hbm, 539, rfl⟩
abbrev main_v508 : Ref sig .tc := ⟨.hbm, 540, rfl⟩
abbrev main_v509 : Ref sig .tc := ⟨.hbm, 541, rfl⟩
abbrev main_v510 : Ref sig .tc := ⟨.hbm, 542, rfl⟩
abbrev main_v511 : Ref sig .tc := ⟨.hbm, 543, rfl⟩
abbrev main_v512 : Ref sig .tc := ⟨.hbm, 544, rfl⟩
abbrev main_v513 : Ref sig .tc := ⟨.hbm, 545, rfl⟩
abbrev main_v514 : Ref sig .tc := ⟨.hbm, 546, rfl⟩
abbrev main_v515 : Ref sig .tc := ⟨.hbm, 547, rfl⟩
abbrev main_v516 : Ref sig .tc := ⟨.hbm, 548, rfl⟩
abbrev main_v517 : Ref sig .tc := ⟨.hbm, 549, rfl⟩
abbrev main_v518 : Ref sig .tc := ⟨.hbm, 550, rfl⟩
abbrev main_v519 : Ref sig .tc := ⟨.hbm, 551, rfl⟩
abbrev main_v520 : Ref sig .tc := ⟨.hbm, 552, rfl⟩
abbrev main_v521 : Ref sig .tc := ⟨.hbm, 553, rfl⟩
abbrev main_v522 : Ref sig .tc := ⟨.hbm, 554, rfl⟩
abbrev main_v523 : Ref sig .tc := ⟨.hbm, 555, rfl⟩
abbrev main_v524 : Ref sig .tc := ⟨.hbm, 556, rfl⟩
abbrev main_v525 : Ref sig .tc := ⟨.hbm, 557, rfl⟩
abbrev main_v526 : Ref sig .tc := ⟨.hbm, 558, rfl⟩
abbrev main_v527 : Ref sig .tc := ⟨.hbm, 559, rfl⟩
abbrev main_v528 : Ref sig .tc := ⟨.hbm, 560, rfl⟩
abbrev main_v529 : Ref sig .tc := ⟨.hbm, 561, rfl⟩
abbrev main_v530 : Ref sig .tc := ⟨.hbm, 562, rfl⟩
abbrev main_cst_16 : Ref sig .tc := ⟨.hbm, 563, rfl⟩
abbrev main_v531 : Ref sig .tc := ⟨.hbm, 564, rfl⟩
abbrev main_v532 : Ref sig .tc := ⟨.hbm, 565, rfl⟩
abbrev main_v533 : Ref sig .tc := ⟨.hbm, 566, rfl⟩
abbrev main_v534 : Ref sig .tc := ⟨.hbm, 567, rfl⟩
abbrev main_v535 : Ref sig .tc := ⟨.hbm, 568, rfl⟩
abbrev main_v536 : Ref sig .tc := ⟨.hbm, 569, rfl⟩
abbrev main_v537 : Ref sig .tc := ⟨.hbm, 570, rfl⟩
abbrev main_v538 : Ref sig .tc := ⟨.hbm, 571, rfl⟩
abbrev main_v539 : Ref sig .tc := ⟨.hbm, 572, rfl⟩
abbrev main_v540 : Ref sig .tc := ⟨.hbm, 573, rfl⟩
abbrev main_v541 : Ref sig .tc := ⟨.hbm, 574, rfl⟩
abbrev main_cst_17 : Ref sig .tc := ⟨.hbm, 575, rfl⟩
abbrev main_v542 : Ref sig .tc := ⟨.hbm, 576, rfl⟩
abbrev main_v543 : Ref sig .tc := ⟨.hbm, 577, rfl⟩
abbrev main_cst_18 : Ref sig .tc := ⟨.hbm, 578, rfl⟩
abbrev main_v544 : Ref sig .tc := ⟨.hbm, 579, rfl⟩
abbrev main_v545 : Ref sig .tc := ⟨.hbm, 580, rfl⟩
abbrev main_v546 : Ref sig .tc := ⟨.hbm, 581, rfl⟩
abbrev main_v547 : Ref sig .tc := ⟨.hbm, 582, rfl⟩
abbrev main_c_19 : Ref sig .tc := ⟨.hbm, 583, rfl⟩
abbrev main_v548 : Ref sig .tc := ⟨.hbm, 584, rfl⟩
abbrev main_v549 : Ref sig .tc := ⟨.hbm, 585, rfl⟩
abbrev main_v550 : Ref sig .tc := ⟨.hbm, 586, rfl⟩
abbrev main_c_20 : Ref sig .tc := ⟨.hbm, 587, rfl⟩
abbrev main_v551 : Ref sig .tc := ⟨.hbm, 588, rfl⟩
abbrev main_v552 : Ref sig .tc := ⟨.hbm, 589, rfl⟩
abbrev main_v553 : Ref sig .tc := ⟨.hbm, 590, rfl⟩
abbrev main_v554 : Ref sig .tc := ⟨.hbm, 591, rfl⟩
abbrev main_c_21 : Ref sig .tc := ⟨.hbm, 592, rfl⟩
abbrev main_v555 : Ref sig .tc := ⟨.hbm, 593, rfl⟩
abbrev main_c_22 : Ref sig .tc := ⟨.hbm, 594, rfl⟩
abbrev main_v556 : Ref sig .tc := ⟨.hbm, 595, rfl⟩
abbrev main_v557 : Ref sig .tc := ⟨.hbm, 596, rfl⟩
abbrev main_v558 : Ref sig .tc := ⟨.hbm, 597, rfl⟩
abbrev main_c_23 : Ref sig .tc := ⟨.hbm, 598, rfl⟩
abbrev main_v559 : Ref sig .tc := ⟨.hbm, 599, rfl⟩
abbrev main_v560 : Ref sig .tc := ⟨.hbm, 600, rfl⟩
abbrev main_v561 : Ref sig .tc := ⟨.hbm, 601, rfl⟩
abbrev main_c_24 : Ref sig .tc := ⟨.hbm, 602, rfl⟩
abbrev main_v562 : Ref sig .tc := ⟨.hbm, 603, rfl⟩
abbrev main_v563 : Ref sig .tc := ⟨.hbm, 604, rfl⟩
abbrev main_v564 : Ref sig .tc := ⟨.hbm, 605, rfl⟩
abbrev main_v565 : Ref sig .tc := ⟨.hbm, 606, rfl⟩
abbrev main_c_25 : Ref sig .tc := ⟨.hbm, 607, rfl⟩
abbrev main_v566 : Ref sig .tc := ⟨.hbm, 608, rfl⟩
abbrev main_c_26 : Ref sig .tc := ⟨.hbm, 609, rfl⟩
abbrev main_v567 : Ref sig .tc := ⟨.hbm, 610, rfl⟩
abbrev main_v568 : Ref sig .tc := ⟨.hbm, 611, rfl⟩
abbrev main_v569 : Ref sig .tc := ⟨.hbm, 612, rfl⟩
abbrev main_c_27 : Ref sig .tc := ⟨.hbm, 613, rfl⟩
abbrev main_v570 : Ref sig .tc := ⟨.hbm, 614, rfl⟩
abbrev main_v571 : Ref sig .tc := ⟨.hbm, 615, rfl⟩
abbrev main_v572 : Ref sig .tc := ⟨.hbm, 616, rfl⟩
abbrev main_c_28 : Ref sig .tc := ⟨.hbm, 617, rfl⟩
abbrev main_v573 : Ref sig .tc := ⟨.hbm, 618, rfl⟩
abbrev main_v574 : Ref sig .tc := ⟨.hbm, 619, rfl⟩
abbrev main_v575 : Ref sig .tc := ⟨.hbm, 620, rfl⟩
abbrev main_v576 : Ref sig .tc := ⟨.hbm, 621, rfl⟩
abbrev main_c_29 : Ref sig .tc := ⟨.hbm, 622, rfl⟩
abbrev main_v577 : Ref sig .tc := ⟨.hbm, 623, rfl⟩
abbrev main_c_30 : Ref sig .tc := ⟨.hbm, 624, rfl⟩
abbrev main_v578 : Ref sig .tc := ⟨.hbm, 625, rfl⟩
abbrev main_v579 : Ref sig .tc := ⟨.hbm, 626, rfl⟩
abbrev main_v580 : Ref sig .tc := ⟨.hbm, 627, rfl⟩
abbrev main_c_31 : Ref sig .tc := ⟨.hbm, 628, rfl⟩
abbrev main_v581 : Ref sig .tc := ⟨.hbm, 629, rfl⟩
abbrev main_v582 : Ref sig .tc := ⟨.hbm, 630, rfl⟩
abbrev main_v583 : Ref sig .tc := ⟨.hbm, 631, rfl⟩
abbrev main_c_32 : Ref sig .tc := ⟨.hbm, 632, rfl⟩
abbrev main_v584 : Ref sig .tc := ⟨.hbm, 633, rfl⟩
abbrev main_v585 : Ref sig .tc := ⟨.hbm, 634, rfl⟩
abbrev main_v586 : Ref sig .tc := ⟨.hbm, 635, rfl⟩
abbrev main_v587 : Ref sig .tc := ⟨.hbm, 636, rfl⟩
abbrev main_c_33 : Ref sig .tc := ⟨.hbm, 637, rfl⟩
abbrev main_v588 : Ref sig .tc := ⟨.hbm, 638, rfl⟩
abbrev main_c_34 : Ref sig .tc := ⟨.hbm, 639, rfl⟩
abbrev main_v589 : Ref sig .tc := ⟨.hbm, 640, rfl⟩
abbrev main_v590 : Ref sig .tc := ⟨.hbm, 641, rfl⟩
abbrev main_v591 : Ref sig .tc := ⟨.hbm, 642, rfl⟩
abbrev main_c_35 : Ref sig .tc := ⟨.hbm, 643, rfl⟩
abbrev main_v592 : Ref sig .tc := ⟨.hbm, 644, rfl⟩
abbrev main_v593 : Ref sig .tc := ⟨.hbm, 645, rfl⟩
abbrev main_v594 : Ref sig .tc := ⟨.hbm, 646, rfl⟩
abbrev main_c_36 : Ref sig .tc := ⟨.hbm, 647, rfl⟩
abbrev main_v595 : Ref sig .tc := ⟨.hbm, 648, rfl⟩
abbrev main_v596 : Ref sig .tc := ⟨.hbm, 649, rfl⟩
abbrev main_v597 : Ref sig .tc := ⟨.hbm, 650, rfl⟩
abbrev main_v598 : Ref sig .tc := ⟨.hbm, 651, rfl⟩
abbrev main_c_37 : Ref sig .tc := ⟨.hbm, 652, rfl⟩
abbrev main_v599 : Ref sig .tc := ⟨.hbm, 653, rfl⟩
abbrev main_c_38 : Ref sig .tc := ⟨.hbm, 654, rfl⟩
abbrev main_v600 : Ref sig .tc := ⟨.hbm, 655, rfl⟩
abbrev main_v601 : Ref sig .tc := ⟨.hbm, 656, rfl⟩
abbrev main_v602 : Ref sig .tc := ⟨.hbm, 657, rfl⟩
abbrev main_v603 : Ref sig .tc := ⟨.hbm, 658, rfl⟩
abbrev main_v604 : Ref sig .tc := ⟨.hbm, 659, rfl⟩
abbrev main_v605 : Ref sig .tc := ⟨.hbm, 660, rfl⟩
abbrev main_v606 : Ref sig .tc := ⟨.hbm, 661, rfl⟩
abbrev main_v607 : Ref sig .tc := ⟨.hbm, 662, rfl⟩
abbrev main_v608 : Ref sig .tc := ⟨.hbm, 663, rfl⟩

abbrev nD : Nat := 1
abbrev τ : Topo := Topo.v7x

variable {F : FTy → Type} [FloatOps F]
-- ==== Proof.IdealTile.lean ====
/-
  One task of the SparseCore call, run once at a symbolic SparseCore and vector subcore: the table and the task's
  1024 words of the index list are copied in, sixty-four trips gather sixteen rows of nine columns each, and the
  nine gathered rows are copied out. The loop's invariant carries the gathered values.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no buffer is shared among the tasks of a SparseCore. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the local transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds. -/
abbrev EH : Emb UH (MT nD τ sig (HIx 1) (Elt F) ℕ UU ℕ) := embL

/-- The pipeline's rounds. -/
def EP : Emb UP (MT nD τ sig (HIx 1) (Elt F) ℕ UU ℕ) :=
  (Emb.inl : Emb UP (UP × Counters)).trans embR

instance EP_landsIn : (EP : Emb UP 𝕄).LandsIn (upEmb : UEmb _ 𝕄) := by unfold EP embR; infer_instance

/-! ## The arrays of the call -/

abbrev tLoc (d : Dev nD) : Loc nD τ sig := (SparseCore.T d).loc main_v10
abbrev cLoc (d : Dev nD) : Loc nD τ sig := (SparseCore.T d).loc main_c
abbrev oLoc (d : Dev nD) : Loc nD τ sig := (SparseCore.T d).loc main_v11

local notation "tW" => (Memref.whole Cert.KernelIdeal.main_v10_scv : Memref Cert.KernelIdeal.sig Kind.scVector Space.hbm Cert.KernelIdeal.S20480 EltTy.f32)
local notation "cW" => (Memref.whole Cert.KernelIdeal.main_c_scv : Memref Cert.KernelIdeal.sig Kind.scVector Space.hbm Cert.KernelIdeal.S32768 EltTy.i32)
local notation "oW" => (Memref.whole Cert.KernelIdeal.main_v11_scv : Memref Cert.KernelIdeal.sig Kind.scVector Space.hbm Cert.KernelIdeal.S32x9x1024 EltTy.f32)
local notation "sT" => (Memref.whole Cert.KernelIdeal.cc1_scratch0 : Memref Cert.KernelIdeal.sig Kind.scVector Space.vmem Cert.KernelIdeal.S20480 EltTy.f32)
local notation "sC" => (Memref.whole Cert.KernelIdeal.cc1_scratch1 : Memref Cert.KernelIdeal.sig Kind.scVector Space.vmem Cert.KernelIdeal.S1024 EltTy.i32)
local notation "sO" => (Memref.whole Cert.KernelIdeal.cc1_scratch2 : Memref Cert.KernelIdeal.sig Kind.scVector Space.vmem Cert.KernelIdeal.S9x1024 EltTy.f32)

/-- Place `n` of the table (of the index list), wrapped into its range. -/
def tIdx (n : ℕ) : S20480.Idx := fun a => ⟨n % S20480.size a, Nat.mod_lt _ (by fin_cases a; decide)⟩
def cIdx (n : ℕ) : S32768.Idx := fun a => ⟨n % S32768.size a, Nat.mod_lt _ (by fin_cases a; decide)⟩

/-- What the call gathers for row `r` of task `w` in column `c`: the table at sixteen times the row's index word, plus `c`. -/
def gat (tb : S20480.Idx → Elt F .f32) (ci : S32768.Idx → BitVec 32) (w c r : ℕ) : Elt F .f32 :=
  tb (tIdx ((ci (cIdx (1024 * w + r))).toNat * 16 + c))

/-- The call's whole result. -/
def gathered (tb : S20480.Idx → Elt F .f32) (ci : S32768.Idx → BitVec 32) : S32x9x1024.Idx → Elt F .f32 :=
  fun j => gat tb ci (j 0).val (j 1).val (j 2).val

theorem odiv : 32 ∣ S32x9x1024.size 0 := ⟨1, rfl⟩
abbrev orow (w : Fin 32) : Rect S32x9x1024 := Rect.part (s := S32x9x1024) (a₀ := 0) odiv w
abbrev oRowSet (w : Fin 32) : Finset S32x9x1024.Idx := ((oW).view.slice (orow w)).set

/-- Leaf `i` of the depth-`n` halving of a share. -/
def leafOf : (n : ℕ) → PosShare TreeShare → ℕ → PosShare TreeShare
  | 0, q, _ => q
  | n + 1, q, i => if i < 2 ^ n then leafOf n q.left i else leafOf n q.right (i - 2 ^ n)

/-- Task `w`'s read share of the table and of the index list. -/
abbrev shr (w : Fin 32) : PosShare TreeShare := leafOf 5 fullShare w.val

/-- What a task is handed, and what it hands back: its shares of the table and of the index list, and its row of the result. -/
def goP (tb : Buf (Elt F) (tLoc 0)) (ci : Buf (Elt F) (cLoc 0)) (d : Dev nD) (w : Fin 32) : sProp 𝕄 :=
  iprop((tLoc d ↦{shr w} (tb : S20480.Idx → Elt F .f32)) ∗ (cLoc d ↦{shr w} (ci : S32768.Idx → Elt F .i32)) ∗ ∃ f, oLoc d ↦[oRowSet w]{fullShare} f)
def tdP (tb : Buf (Elt F) (tLoc 0)) (ci : Buf (Elt F) (cLoc 0)) (d : Dev nD) (w : Fin 32) : sProp 𝕄 :=
  iprop((tLoc d ↦{shr w} (tb : S20480.Idx → Elt F .f32)) ∗ (cLoc d ↦{shr w} (ci : S32768.Idx → Elt F .i32))
    ∗ oLoc d ↦[oRowSet w]{fullShare} (gathered (F := F) tb ci : S32x9x1024.Idx → Elt F .f32))

/-- The number of the task of SparseCore `c` and vector subcore `i`. -/
def wk (c : ℕ) (i : ℕ) : Fin 32 := ⟨(2 * i + c) % 32, Nat.mod_lt _ (by decide)⟩

section Tile

variable (d : Dev nD) (L : grid1.Coords)

abbrev cV (L : grid1.Coords) : Fin τ.nSC := (L 0).castLE hcore1
abbrev jV (L : grid1.Coords) : Fin τ.nSub := (L 1).castLE hsub1
abbrev wL (L : grid1.Coords) : Fin 32 := wk (L 0).val (L 1).val

theorem wL_val : (wL L).val = 2 * (L 1).val + (L 0).val := by
  have h0 : (L 0).val < 2 := (L 0).isLt
  have h1 : (L 1).val < 16 := (L 1).isLt
  show (2 * (L 1).val + (L 0).val) % 32 = _
  omega

abbrev thr : Thread nD τ := V d (cV L) (jV L)
abbrev rowR : Rect S32x9x1024 := Rect.unit (s := S32x9x1024) (k1_off12 L) S1x9x1024.size (k1_off12_inb L)
abbrev lstR : Rect S32768 := Rect.unit (s := S32768) (k1_off1 L) S1024.size (k1_off1_inb L)
abbrev cSl : Memref sig .scVector .hbm S1024 .i32 := (cW).slice (lstR L) (fun _ => rfl)
abbrev oSl : Memref sig .scVector .hbm S9x1024 .f32 := ((oW).slice (rowR L) (fun _ => rfl)).squeeze S9x1024 squeezes_S1x9x1024_S9x1024

theorem rowR_eq : rowR L = orow (wL L) := by
  unfold rowR orow Rect.part Rect.block
  congr 1 <;> funext a
  · rw [k1_off12_eq]
    match a with
    | 0 => simp [Shape.partIx, Shape.partSize, wL_val]
    | 1 => simp [Shape.partIx, Shape.partSize]
    | 2 => simp [Shape.partIx, Shape.partSize]
  · match a with
    | 0 => simp [Shape.partSize]
    | 1 => simp [Shape.partSize]
    | 2 => simp [Shape.partSize]

theorem set_oSl : (oSl L).view.set = oRowSet (wL L) := by
  show (((oW).view.slice (rowR L)).reshape S9x1024 squeezes_S1x9x1024_S9x1024.numel_eq).set = ((oW).view.slice (orow (wL L))).set
  rw [View.set_reshape]
  exact rowR_eq L ▸ rfl

theorem pts_oSl (f : Buf (Elt F) (oLoc d)) :
    ((oSl L).view.loc (thr d L) ↦[(oSl L).view.set]{fullShare} f : sProp 𝕄) = oLoc d ↦[oRowSet (wL L)]{fullShare} f := by
  rw [set_oSl]

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

/-- A task's three transfer counters, and the rest of its own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

/-- A task's three scratch buffers, and the rest of its own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (tb : Buf (Elt F) (tLoc 0)) (ci : Buf (Elt F) (cLoc 0))

/-- The index words of task `w`, as its scratch holds them. -/
def lst (w : ℕ) : S1024.Idx → Elt F .i32 := fun j => (ci : S32768.Idx → BitVec 32) (cIdx (1024 * w + (j 0).val))
/-- The rows task `w` gathers, as its scratch holds them. -/
def tgt (w : ℕ) : S9x1024.Idx → Elt F .f32 := fun j => gat (F := F) tb ci w (j 0).val (j 1).val

/-- The loop's invariant before trip `k`: the table, the task's index words, and the result scratch whose first
    `16 k` columns hold the gathered values. -/
def inv (k : Nat) (_ : PUnit) : sProp 𝕄 :=
  iprop(((sT).view.loc (thr d L) ↦{fullShare} (tb : S20480.Idx → Elt F .f32))
    ∗ ((sC).view.loc (thr d L) ↦{fullShare} (lst (F := F) ci (wL L).val : S1024.Idx → Elt F .i32))
    ∗ ∃ f : S9x1024.Idx → Elt F .f32, ⌜∀ j, (j 1).val < 16 * k → f j = tgt tb ci (wL L).val j⌝ ∗ ((sO).view.loc (thr d L) ↦{fullShare} f))

/-- The sixteen words a trip loads. -/
abbrev ldw (k : Fin k1_t1_loop.trips) : Vec F S16 .i32 :=
  (sC).view.readAt (Elt F) (Rect.unit (s := S1024) (k1_off2 k) S16.size (k1_off2_inb k)).toLoadRect (lst (F := F) ci (wL L).val)

/-- Lane `x` of a trip's words. -/
theorem ldw_apply (k : Fin k1_t1_loop.trips) (x : S16.Idx) :
    ldw (F := F) L ci k x = (ci : S32768.Idx → BitVec 32) (cIdx (1024 * (wL L).val + (16 * k.val + (x 0).val))) := by
  simp only [View.readAt_apply, Memref.view_whole, View.read_whole, lst]
  congr 3
  rw [LoadRect.idx_apply]
  show k1_off2 k 0 + 1 * (x 0).val = _
  rw [k1_off2_eq]; simp

variable (hci : ∀ i, ((ci : S32768.Idx → BitVec 32) i).toNat < 1280)

include hci in
/-- Lane `x` of the places a trip's column `c` gathers from, as a number. -/
theorem addr_toNat (k : Fin k1_t1_loop.trips) (c : ℕ) (hc : c < 9) (x : S16.Idx) :
    (addi (muli (ldw (F := F) L ci k) (broadcast S16 16#32)) (broadcast S16 (BitVec.ofNat 32 c)) x : BitVec 32).toNat
      = (ldw (F := F) L ci k x : BitVec 32).toNat * 16 + c := by
  have h : (ldw (F := F) L ci k x : BitVec 32).toNat < 1280 := by rw [ldw_apply]; exact hci _
  show ((ldw (F := F) L ci k x : BitVec 32) * 16#32 + BitVec.ofNat 32 c).toNat = _
  rw [BitVec.toNat_add, BitVec.toNat_mul, BitVec.toNat_ofNat, BitVec.toNat_ofNat]
  omega

include hci in
/-- A trip's column `c` reads inside the table. -/
theorem addr_lt (k : Fin k1_t1_loop.trips) (c : ℕ) (hc : c < 9) :
    ∀ a x, ((![addi (muli (ldw (F := F) L ci k) (broadcast S16 16#32)) (broadcast S16 (BitVec.ofNat 32 c))] : Fin 1 → IVec S16 32) a x).toNat < S20480.size a := by
  intro a x
  obtain rfl : a = 0 := Subsingleton.elim _ _
  show (addi (muli (ldw (F := F) L ci k) (broadcast S16 16#32)) (broadcast S16 (BitVec.ofNat 32 c)) x : BitVec 32).toNat < 20480
  rw [addr_toNat L ci hci k c hc x]
  have h : (ldw (F := F) L ci k x : BitVec 32).toNat < 1280 := by rw [ldw_apply]; exact hci _
  omega

/-- The sixteen gathered elements a trip stores in row `c`. -/
abbrev gp (k : Fin k1_t1_loop.trips) (c : ℕ) (hc : c < 9) : Vec F S1x16 .f32 :=
  shapeCast S1x16 (loadIdx (((sT).access (.whole S20480)).read (Elt F) (tb : S20480.Idx → Elt F .f32))
    ![addi (muli (ldw (F := F) L ci k) (broadcast S16 16#32)) (broadcast S16 (BitVec.ofNat 32 c))] (addr_lt L ci hci k c hc)) shapeCasts_S16_S1x16

/-- The table's scratch read whole is its contents. -/
theorem read_table (f : S20480.Idx → Elt F .f32) : ((sT).access (.whole S20480)).read (Elt F) f = f := by
  funext x
  refine ((View.read_apply _ _).trans (cast_eq _ _)).trans (congrArg f (funext fun a => Fin.ext ?_))
  show 0 + 1 * (x a).val = (x a).val
  omega

/-- Element `x` of what a trip stores in row `c`. -/
theorem gp_apply (k : Fin k1_t1_loop.trips) (c : ℕ) (hc : c < 9) (x : S1x16.Idx) :
    gp L tb ci hci k c hc x = gat (F := F) tb ci (wL L).val c (16 * k.val + (x 1).val) := by
  have hx : Shape.reshapeEquiv shapeCasts_S16_S1x16 x = (fun a => ⟨(x 1).val, by
      obtain rfl : a = 0 := Subsingleton.elim _ _; exact (x 1).isLt⟩ : S16.Idx) :=
    Shape.reshapeEquiv_eq_of_rowMajor _ (by
      rw [Shape.rowMajor_val_one, Shape.rowMajor_val_two]
      have h0 : (x 0).val < 1 := (x 0).isLt
      show (x 1).val = (x 0).val * 16 + (x 1).val
      omega)
  show loadIdx (((sT).access (.whole S20480)).read (Elt F) (tb : S20480.Idx → Elt F .f32)) _ (addr_lt L ci hci k c hc) (Shape.reshapeEquiv shapeCasts_S16_S1x16 x) = _
  rw [hx]
  rw [read_table]
  show (tb : S20480.Idx → Elt F .f32) _ = (tb : S20480.Idx → Elt F .f32) _
  congr 1
  refine funext fun (a : Fin 1) => ?_
  obtain rfl : a = 0 := Subsingleton.elim _ _
  refine Fin.ext ?_
  have h := addr_toNat (F := F) L ci hci k c hc (fun a => ⟨(x 1).val, by
      obtain rfl : a = 0 := Subsingleton.elim _ _; exact (x 1).isLt⟩ : S16.Idx)
  have hl := addr_lt (F := F) L ci hci k c hc 0 (fun a => ⟨(x 1).val, by
      obtain rfl : a = 0 := Subsingleton.elim _ _; exact (x 1).isLt⟩ : S16.Idx)
  rw [ldw_apply] at h
  exact ((h.trans (by rfl)).trans (Nat.mod_eq_of_lt (h ▸ hl)).symm)

/-- A trip's nine pieces, the last store first. -/
abbrev pcs (k : Fin k1_t1_loop.trips) : List (View.Piece (Elt F) S9x1024 .f32) :=
  [⟨Rect.unit (s := S9x1024) (k1_off11 k) S1x16.size (k1_off11_inb k), gp L tb ci hci k 8 (by decide)⟩,
   ⟨Rect.unit (s := S9x1024) (k1_off10 k) S1x16.size (k1_off10_inb k), gp L tb ci hci k 7 (by decide)⟩,
   ⟨Rect.unit (s := S9x1024) (k1_off9 k) S1x16.size (k1_off9_inb k), gp L tb ci hci k 6 (by decide)⟩,
   ⟨Rect.unit (s := S9x1024) (k1_off8 k) S1x16.size (k1_off8_inb k), gp L tb ci hci k 5 (by decide)⟩,
   ⟨Rect.unit (s := S9x1024) (k1_off7 k) S1x16.size (k1_off7_inb k), gp L tb ci hci k 4 (by decide)⟩,
   ⟨Rect.unit (s := S9x1024) (k1_off6 k) S1x16.size (k1_off6_inb k), gp L tb ci hci k 3 (by decide)⟩,
   ⟨Rect.unit (s := S9x1024) (k1_off5 k) S1x16.size (k1_off5_inb k), gp L tb ci hci k 2 (by decide)⟩,
   ⟨Rect.unit (s := S9x1024) (k1_off4 k) S1x16.size (k1_off4_inb k), gp L tb ci hci k 1 (by decide)⟩,
   ⟨Rect.unit (s := S9x1024) (k1_off3 k) S1x16.size (k1_off3_inb k), gp L tb ci hci k 0 (by decide)⟩]

/-- A piece of one row and sixteen columns: what it stores is the target there, and its elements are that row's. -/
theorem piece_ok (k : Fin k1_t1_loop.trips) (c : ℕ) (hc : c < 9) (off : Fin 2 → ℕ) (hoff : off = ![c, 16 * k.val])
    (hin : ∀ a, off a + S1x16.size a ≤ S9x1024.size a) :
    (∀ x, gp L tb ci hci k c hc x = tgt tb ci (wL L).val ((Rect.unit (s := S9x1024) off S1x16.size hin).emb x))
      ∧ (∀ y : S9x1024.Idx, (y 1).val < 16 * k.val → y ∉ (Rect.unit (s := S9x1024) off S1x16.size hin).set)
      ∧ ∀ y : S9x1024.Idx, (y 0).val = c → 16 * k.val ≤ (y 1).val → (y 1).val < 16 * (k.val + 1) → y ∈ (Rect.unit (s := S9x1024) off S1x16.size hin).set := by
  subst hoff
  refine ⟨fun x => ?_, fun y hy => ?_, fun y h0 h1 h2 => ?_⟩
  · rw [gp_apply]
    have h0 : (x 0).val < 1 := (x 0).isLt
    show gat (F := F) tb ci (wL L).val c (16 * k.val + (x 1).val) = gat (F := F) tb ci (wL L).val (c + 1 * (x 0).val) (16 * k.val + 1 * (x 1).val)
    congr 1 <;> omega
  · exact Rect.not_mem_set_of_axis _ y 1 (16 * k.val) 16 rfl rfl rfl (Or.inl hy)
  · rw [Rect.mem_set_unit]
    intro a
    match a with
    | 0 => show c ≤ (y 0).val ∧ (y 0).val < c + 1; omega
    | 1 => show 16 * k.val ≤ (y 1).val ∧ (y 1).val < 16 * k.val + 16; omega

/-- After a trip's nine stores the first `16 (k + 1)` columns hold the gathered values. -/
theorem trip_holds (k : Fin k1_t1_loop.trips) (f : S9x1024.Idx → Elt F .f32) (hf : ∀ j : S9x1024.Idx, (j 1).val < 16 * k.val → f j = tgt tb ci (wL L).val j) :
    ∀ j : S9x1024.Idx, (j 1).val < 16 * (k.val + 1) → (sO).view.writes (Elt F) f (pcs L tb ci hci k) j = tgt tb ci (wL L).val j := by
  intro j hj
  have e : (sO).view.writes (Elt F) f (pcs L tb ci hci k) j = (sO).view.read (Elt F) ((sO).view.writes (Elt F) f (pcs L tb ci hci k)) j := by
    simp only [Memref.view_whole, View.read_whole]
  rw [e]
  have p0 := piece_ok L tb ci hci k 0 (by decide) _ (k1_off3_eq k) (k1_off3_inb k)
  have p1 := piece_ok L tb ci hci k 1 (by decide) _ (k1_off4_eq k) (k1_off4_inb k)
  have p2 := piece_ok L tb ci hci k 2 (by decide) _ (k1_off5_eq k) (k1_off5_inb k)
  have p3 := piece_ok L tb ci hci k 3 (by decide) _ (k1_off6_eq k) (k1_off6_inb k)
  have p4 := piece_ok L tb ci hci k 4 (by decide) _ (k1_off7_eq k) (k1_off7_inb k)
  have p5 := piece_ok L tb ci hci k 5 (by decide) _ (k1_off8_eq k) (k1_off8_inb k)
  have p6 := piece_ok L tb ci hci k 6 (by decide) _ (k1_off9_eq k) (k1_off9_inb k)
  have p7 := piece_ok L tb ci hci k 7 (by decide) _ (k1_off10_eq k) (k1_off10_inb k)
  have p8 := piece_ok L tb ci hci k 8 (by decide) _ (k1_off11_eq k) (k1_off11_inb k)
  rcases Nat.lt_or_ge (j 1).val (16 * k.val) with hlt | hge
  · rw [View.read_writes_apply_of_forall_not_mem]
    · simp only [Memref.view_whole, View.read_whole]; exact hf j hlt
    · simp only [pcs, List.forall_mem_cons]
      exact ⟨p8.2.1 j hlt, p7.2.1 j hlt, p6.2.1 j hlt, p5.2.1 j hlt, p4.2.1 j hlt, p3.2.1 j hlt, p2.2.1 j hlt, p1.2.1 j hlt, p0.2.1 j hlt, fun _ h => absurd h (List.not_mem_nil)⟩
  · refine View.read_writes_apply_of_pieces _ _ (tgt tb ci (wL L).val) _ ?_ j ?_
    · simp only [pcs, List.forall_mem_cons]
      exact ⟨p8.1, p7.1, p6.1, p5.1, p4.1, p3.1, p2.1, p1.1, p0.1, fun _ h => absurd h (List.not_mem_nil)⟩
    · have h9 : (j 0).val < 9 := (j 0).isLt
      simp only [pcs, List.exists_mem_cons_iff]
      generalize hc : (j 0).val = c at h9
      interval_cases c
      · exact .inr <| .inr <| .inr <| .inr <| .inr <| .inr <| .inr <| .inr <| .inl (p0.2.2 j hc hge hj)
      · exact .inr <| .inr <| .inr <| .inr <| .inr <| .inr <| .inr <| .inl (p1.2.2 j hc hge hj)
      · exact .inr <| .inr <| .inr <| .inr <| .inr <| .inr <| .inl (p2.2.2 j hc hge hj)
      · exact .inr <| .inr <| .inr <| .inr <| .inr <| .inl (p3.2.2 j hc hge hj)
      · exact .inr <| .inr <| .inr <| .inr <| .inl (p4.2.2 j hc hge hj)
      · exact .inr <| .inr <| .inr <| .inl (p5.2.2 j hc hge hj)
      · exact .inr <| .inr <| .inl (p6.2.2 j hc hge hj)
      · exact .inr <| .inl (p7.2.2 j hc hge hj)
      · exact .inl (p8.2.2 j hc hge hj)

include hci in
set_option maxHeartbeats 8000000 in
/-- One trip: nine gathers and stores. -/
theorem trip (k : Fin k1_t1_loop.trips) :
    inv d L tb ci k.val ⟨⟩
      ⊢ wp frame (wpE (defs₀ (F := F)) 𝒱₀ (thr d L) none) Set.univ
          (k1_t1_body L tW (Memref.isWhole_whole _) cW (Memref.isWhole_whole _) oW (Memref.isWhole_whole _)
            sT (Memref.isWhole_whole _) sC (Memref.isWhole_whole _) sO (Memref.isWhole_whole _) cc1_scoped0 cc1_scoped1 cc1_scoped2 k ())
          fun _ => inv d L tb ci (k.val + 1) ⟨⟩ := by
  unfold inv k1_t1_body
  simp only [k1_part1_eq_skeleton, k1_part2_eq_skeleton]
  unfold k1_part1_skel k1_part2_skel
  simp only [Prog.lift, Prog.bind_op, Prog.bind_ret, Prog.pure_eq_ret, bind_assoc]
  iintro ⟨Ht, Hc, ⟨%f, %hf, Ho⟩⟩
  iapply (wp_load 𝒱₀ (thr d L) none Set.univ (m := sC) (S := Finset.univ) (Finset.subset_univ _)) $$ Hc; iintro Hc
  rw [wp_assume_of _ _ _ _ (show k1_chk1 (k1_pay2 (ldw (F := F) L ci k)) from addr_lt L ci hci k 0 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes₀ 𝒱₀ (thr d L) none Set.univ (m := sO) (r := Rect.unit (s := S9x1024) (k1_off3 k) S1x16.size (k1_off3_inb k)) (w := gp L tb ci hci k 0 (by decide)) (S := Finset.univ) (f := f) (Finset.subset_univ _)) $$ Ho ; iintro Ho
  rw [wp_assume_of _ _ _ _ (show k1_chk2 (k1_pay3 (ldw (F := F) L ci k)) from addr_lt L ci hci k 1 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off4 k) S1x16.size (k1_off4_inb k)) (w := gp L tb ci hci k 1 (by decide)) (S := Finset.univ) (f := f) (Finset.subset_univ _)) $$ Ho ; iintro Ho
  rw [wp_assume_of _ _ _ _ (show k1_chk3 (k1_pay4 (ldw (F := F) L ci k)) from addr_lt L ci hci k 2 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off5 k) S1x16.size (k1_off5_inb k)) (w := gp L tb ci hci k 2 (by decide)) (S := Finset.univ) (f := f) (Finset.subset_univ _)) $$ Ho ; iintro Ho
  rw [wp_assume_of _ _ _ _ (show k1_chk4 (k1_pay5 (ldw (F := F) L ci k)) from addr_lt L ci hci k 3 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off6 k) S1x16.size (k1_off6_inb k)) (w := gp L tb ci hci k 3 (by decide)) (S := Finset.univ) (f := f) (Finset.subset_univ _)) $$ Ho ; iintro Ho
  rw [wp_assume_of _ _ _ _ (show k1_chk5 (k1_pay6 (k1_pay1 (F := F) (ldw (F := F) L ci k))) from addr_lt L ci hci k 4 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off7 k) S1x16.size (k1_off7_inb k)) (w := gp L tb ci hci k 4 (by decide)) (S := Finset.univ) (f := f) (Finset.subset_univ _)) $$ Ho ; iintro Ho
  rw [wp_assume_of _ _ _ _ (show k1_chk6 (k1_pay7 (k1_pay1 (F := F) (ldw (F := F) L ci k))) from addr_lt L ci hci k 5 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off8 k) S1x16.size (k1_off8_inb k)) (w := gp L tb ci hci k 5 (by decide)) (S := Finset.univ) (f := f) (Finset.subset_univ _)) $$ Ho ; iintro Ho
  rw [wp_assume_of _ _ _ _ (show k1_chk7 (k1_pay8 (k1_pay1 (F := F) (ldw (F := F) L ci k))) from addr_lt L ci hci k 6 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off9 k) S1x16.size (k1_off9_inb k)) (w := gp L tb ci hci k 6 (by decide)) (S := Finset.univ) (f := f) (Finset.subset_univ _)) $$ Ho ; iintro Ho
  rw [wp_assume_of _ _ _ _ (show k1_chk8 (k1_pay9 (k1_pay1 (F := F) (ldw (F := F) L ci k))) from addr_lt L ci hci k 7 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off10 k) S1x16.size (k1_off10_inb k)) (w := gp L tb ci hci k 7 (by decide)) (S := Finset.univ) (f := f) (Finset.subset_univ _)) $$ Ho ; iintro Ho
  rw [wp_assume_of _ _ _ _ (show k1_chk9 (k1_pay10 (k1_pay1 (F := F) (ldw (F := F) L ci k))) from addr_lt L ci hci k 8 (by decide))]
  iapply (SparseCore.wp_vectorLoadIdx 𝒱₀ (thr d L) none Set.univ (base := sT) (S := Finset.univ) (q := fullShare) (Finset.subset_univ _)) $$ Ht; iintro Ht
  iapply (wp_load 𝒱₀ (thr d L) none Set.univ (m := sO) (S := Finset.univ) (Finset.subset_univ _)) $$ Ho; iintro Ho
  iapply (wp_store_writes 𝒱₀ (thr d L) none Set.univ (m := sO) (r := Rect.unit (s := S9x1024) (k1_off11 k) S1x16.size (k1_off11_inb k)) (w := gp L tb ci hci k 8 (by decide)) (S := Finset.univ) (f := f) (Finset.subset_univ _)) $$ Ho ; iintro Ho
  rw [wp_ret]
  imodintro
  isplitl [Ht]; · iexact Ht
  isplitl [Hc]; · iexact Hc
  iexists ((sO).view.writes (Elt F) f (pcs L tb ci hci k))
  isplitr; · ipureintro; exact trip_holds L tb ci hci k f hf
  iexact Ho

end Tile

end Cert.Proof.KernelIdeal

end
-- ==== Proof.IdealTask.lean ====
/-
  One task of the SparseCore call in whole: the two fetches and their waits, the loop by its invariant, and the
  write-out of the task's rows.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.IdealTile
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tW" => (Memref.whole Cert.KernelIdeal.main_v10_scv : Memref Cert.KernelIdeal.sig Kind.scVector Space.hbm Cert.KernelIdeal.S20480 EltTy.f32)
local notation "cW" => (Memref.whole Cert.KernelIdeal.main_c_scv : Memref Cert.KernelIdeal.sig Kind.scVector Space.hbm Cert.KernelIdeal.S32768 EltTy.i32)
local notation "oW" => (Memref.whole Cert.KernelIdeal.main_v11_scv : Memref Cert.KernelIdeal.sig Kind.scVector Space.hbm Cert.KernelIdeal.S32x9x1024 EltTy.f32)
local notation "sT" => (Memref.whole Cert.KernelIdeal.cc1_scratch0 : Memref Cert.KernelIdeal.sig Kind.scVector Space.vmem Cert.KernelIdeal.S20480 EltTy.f32)
local notation "sC" => (Memref.whole Cert.KernelIdeal.cc1_scratch1 : Memref Cert.KernelIdeal.sig Kind.scVector Space.vmem Cert.KernelIdeal.S1024 EltTy.i32)
local notation "sO" => (Memref.whole Cert.KernelIdeal.cc1_scratch2 : Memref Cert.KernelIdeal.sig Kind.scVector Space.vmem Cert.KernelIdeal.S9x1024 EltTy.f32)

section Task

variable (d : Dev nD) (L : grid1.Coords) (tb : Buf (Elt F) (tLoc 0)) (ci : Buf (Elt F) (cLoc 0))

theorem pts_sT (f : Buf (Elt F) ((thr d L).loc cc1_scratch0)) :
    ((sT).view.loc (thr d L) ↦{fullShare} f : sProp 𝕄) = (thr d L).loc cc1_scratch0 ↦{fullShare} f := rfl
theorem pts_sC (f : Buf (Elt F) ((thr d L).loc cc1_scratch1)) :
    ((sC).view.loc (thr d L) ↦{fullShare} f : sProp 𝕄) = (thr d L).loc cc1_scratch1 ↦{fullShare} f := rfl
theorem pts_sO (f : Buf (Elt F) ((thr d L).loc cc1_scratch2)) :
    ((sO).view.loc (thr d L) ↦{fullShare} f : sProp 𝕄) = (thr d L).loc cc1_scratch2 ↦{fullShare} f := rfl
theorem pts_tW (q : PosShare TreeShare) (f : S20480.Idx → Elt F .f32) :
    ((tW).view.loc (thr d L) ↦{q} f : sProp 𝕄) = tLoc d ↦{q} f := rfl
theorem pts_cW (q : PosShare TreeShare) (f : S32768.Idx → Elt F .i32) :
    ((cW).view.loc (thr d L) ↦{q} f : sProp 𝕄) = cLoc d ↦{q} f := rfl

/-- What the second fetch reads is the task's list. -/
theorem read_list : (cSl L).view.read (Elt F) (ci : S32768.Idx → Elt F .i32) = lst (F := F) ci (wL L).val := by
  funext x
  refine ((View.read_apply _ _).trans (cast_eq _ _)).trans (congrArg (ci : S32768.Idx → Elt F .i32) (funext fun (a : Fin 1) => ?_))
  obtain rfl : a = 0 := Subsingleton.elim _ _
  refine Fin.ext ?_
  have hx : (x 0).val < 1024 := (x 0).isLt
  have hw : (wL L).val < 32 := (wL L).isLt
  show k1_off1 L 0 + 1 * (x 0).val = (1024 * (wL L).val + (x 0).val) % 32768
  rw [k1_off1_eq, wL_val] at *
  show 2048 * (L 1).val + 1024 * (L 0).val + 1 * (x 0).val = _
  omega

/-- Element `x` of a task's rows lies in the result at row `wL L`. -/
theorem emb_out (x : S9x1024.Idx) : ((oSl L).view.emb x : S32x9x1024.Idx) 0 = wL L ∧ (((oSl L).view.emb x : S32x9x1024.Idx) 1).val = (x 0).val
    ∧ (((oSl L).view.emb x : S32x9x1024.Idx) 2).val = (x 1).val := by
  have e : (oSl L).view.emb x = (rowR L).emb (Fin.cons ⟨0, Nat.one_pos⟩ x : S1x9x1024.Idx) := by
    show (rowR L).emb (Shape.reshapeEquiv _ x) = _
    exact congrArg _ (Shape.reshapeEquiv_cons_one (d := ![9, 1024]) _ x)
  rw [e]
  refine ⟨Fin.ext ?_, ?_, ?_⟩
  · show k1_off12 L 0 + 1 * 0 = (wL L).val
    rw [k1_off12_eq, wL_val]; rfl
  · show k1_off12 L 1 + 1 * (x 0).val = _
    rw [k1_off12_eq]; show 0 + 1 * (x 0).val = _; omega
  · show k1_off12 L 2 + 1 * (x 1).val = _
    rw [k1_off12_eq]; show 0 + 1 * (x 1).val = _; omega

/-- A task's rows written from what its scratch holds are the call's result on them. -/
theorem out_holds (fo : S32x9x1024.Idx → Elt F .f32) (f : S9x1024.Idx → Elt F .f32) (hf : ∀ j, f j = tgt tb ci (wL L).val j) :
    ∀ i ∈ (oSl L).view.set, (oSl L).view.writes (Elt F) fo [⟨Rect.whole S9x1024, f⟩] i = gathered (F := F) tb ci i := by
  intro i hi
  obtain ⟨x, -, rfl⟩ := Finset.mem_map.mp hi
  obtain ⟨h0, h1, h2⟩ := emb_out L x
  have e : (oSl L).view.read (Elt F) ((oSl L).view.writes (Elt F) fo [⟨Rect.whole S9x1024, f⟩]) x = f x :=
    View.read_writes_cons_hit_of_coords (oSl L).view fo (Rect.whole S9x1024) f [] x x (fun a => by
      show (x a).val = 0 + 1 * (x a).val; omega)
  rw [View.read_apply, cast_eq] at e
  rw [e, hf]
  show gat (F := F) tb ci _ _ _ = gat (F := F) tb ci _ _ _
  rw [h0, h1, h2]

variable (hci : ∀ i, ((ci : S32768.Idx → BitVec 32) i).toNat < 1280)

include hci in
set_option maxHeartbeats 4000000 in
/-- One task from what it is handed to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ goP tb ci d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tW (Memref.isWhole_whole _) cW (Memref.isWhole_whole _) oW (Memref.isWhole_whole _)
            sT (Memref.isWhole_whole _) sC (Memref.isWhole_whole _) sO (Memref.isWhole_whole _) cc1_scoped0 cc1_scoped1 cc1_scoped2)
          fun _ => iprop(tdP tb ci d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel goP tdP
  rw [(K (F := F)).scopedBufs_V hF d (cV L) (jV L), SparseCore.Cfg.scopedSems0_V (Val := Elt F) d (cV L) (jV L), ownSems0_V, ownBufs_V]
  iintro ⟨#Hlv, -, ⟨Ht, Hc, ⟨%fo, Ho⟩⟩, ⟨⟨%f0, H0⟩, ⟨%f1, H1⟩, ⟨%f2, H2⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tW (F := F) d L _ _).symm) $$ Ht
  ihave Hc' := (Entails.of_eq (pts_cW (F := F) d L _ _).symm) $$ Hc
  ihave Ho' := (Entails.of_eq (pts_oSl (F := F) d L _).symm) $$ Ho
  ihave H0' := (Entails.of_eq (pts_sT (F := F) d L _).symm) $$ H0
  ihave H1' := (Entails.of_eq (pts_sC (F := F) d L _).symm) $$ H1
  ihave H2' := (Entails.of_eq (pts_sO (F := F) d L _).symm) $$ H2
  sl_exec
  have e0 : View.write (Elt F) (sT).view f0 (tile_body.sl.dma0 tb) Finset.univ = (tb : S20480.Idx → Elt F .f32) := by
    rw [View.write_whole_univ]
    show (tW).view.read (Elt F) (tb : S20480.Idx → Elt F .f32) = _
    simp only [Memref.view_whole, View.read_whole]
  have e1 : View.write (Elt F) (sC).view f1 (tile_body.sl.dma0_1 L ci) Finset.univ = (lst (F := F) ci (wL L).val : S1024.Idx → Elt F .i32) := by
    rw [View.write_whole_univ]
    exact read_list (F := F) L ci
  rw [e0, e1]
  sl_for (inv d L tb ci) $$ [H0' H1' H2']
  case region => intro k _; exact trip d L tb ci hci k
  · unfold inv
    isplitl [H0']; · iexact H0'
    isplitl [H1']; · iexact H1'
    iexists f2
    isplitr; · ipureintro; intro j hj; omega
    iexact H2'
  iintro %_ HI
  unfold inv
  icases HI with ⟨H0', H1', ⟨%f, %hf, H2'⟩⟩
  sl_exec
  rw [wp_ret]
  imodintro
  isplitl [Ht' Hc' Ho']
  · isplitl [Ht']; · iexact Ht'
    isplitl [Hc']; · iexact Hc'
    iapply (Entails.of_eq ((pointsTo_congr (out_holds (F := F) L tb ci fo f fun j => hf j (by
      have h : (j 1).val < 1024 := (j 1).isLt
      exact h))).trans (pts_oSl (F := F) d L _)))
    iexact Ho'
  isplitl [H0' H1' H2' Hbufs]
  · isplitl [H0']; · iexists _; iexact H0'
    isplitl [H1']; · iexists _; iexact H1'
    isplitl [H2']; · iexists _; iexact H2'
    iexact Hbufs
  isplitl [HsemA HsemB HsemC Hsems]
  · isplitl [HsemA]; · iexact HsemA
    isplitl [HsemB]; · iexact HsemB
    isplitl [HsemC]; · iexact HsemC
    iexact Hsems
  iexists (insert ((.dma cc1_scoped2.sem : SemLoc sig), (default : HIx 1)) (insert ((.dma cc1_scoped1.sem : SemLoc sig), (default : HIx 1))
    (insert ((.dma cc1_scoped0.sem : SemLoc sig), (default : HIx 1)) W)))
  isplitr
  · ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp
  iexact HO

end Task

end Cert.Proof.KernelIdeal

end
-- ==== Proof.IdealCall.lean ====
/-
  The SparseCore call as the launch runs it: what each SparseCore and each task is handed and hands back, a task's
  obligation, the split of the call's arrays among the thirty-two tasks, and the ghost state of the launch.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.IdealTask
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tW" => (Memref.whole Cert.KernelIdeal.main_v10_scv : Memref Cert.KernelIdeal.sig Kind.scVector Space.hbm Cert.KernelIdeal.S20480 EltTy.f32)
local notation "cW" => (Memref.whole Cert.KernelIdeal.main_c_scv : Memref Cert.KernelIdeal.sig Kind.scVector Space.hbm Cert.KernelIdeal.S32768 EltTy.i32)
local notation "oW" => (Memref.whole Cert.KernelIdeal.main_v11_scv : Memref Cert.KernelIdeal.sig Kind.scVector Space.hbm Cert.KernelIdeal.S32x9x1024 EltTy.f32)
local notation "sT" => (Memref.whole Cert.KernelIdeal.cc1_scratch0 : Memref Cert.KernelIdeal.sig Kind.scVector Space.vmem Cert.KernelIdeal.S20480 EltTy.f32)
local notation "sC" => (Memref.whole Cert.KernelIdeal.cc1_scratch1 : Memref Cert.KernelIdeal.sig Kind.scVector Space.vmem Cert.KernelIdeal.S1024 EltTy.i32)
local notation "sO" => (Memref.whole Cert.KernelIdeal.cc1_scratch2 : Memref Cert.KernelIdeal.sig Kind.scVector Space.vmem Cert.KernelIdeal.S9x1024 EltTy.f32)

variable (tb : Buf (Elt F) (tLoc 0)) (ci : Buf (Elt F) (cLoc 0))

/-! ## What the call carries -/

/-- A SparseCore is handed its sixteen tasks' parts and hands back theirs. -/
def P : (K (F := F)).Pay (nD := nD) (Val := Elt F) (Name := ℕ) (U := UU) where
  st := fun q d c => match q with | 0 => bigSep Finset.univ fun i : Fin ((K (F := F)).nSub 0) => goP tb ci d (wk c.val i.val)
  dn := fun q d c => match q with | 0 => bigSep Finset.univ fun i : Fin ((K (F := F)).nSub 0) => tdP tb ci d (wk c.val i.val)
  go := fun q d c i => match q with | 0 => goP tb ci d (wk c.val i.val)
  td := fun q d c i => match q with | 0 => tdP tb ci d (wk c.val i.val)
  x := fun _ _ => iprop(emp)

instance goP_storable (d : Dev nD) (w : Fin 32) : BI.Storable (upEmb : UEmb _ 𝕄) (goP tb ci d w) := by unfold goP; infer_instance
instance tdP_storable (d : Dev nD) (w : Fin 32) : BI.Storable (upEmb : UEmb _ 𝕄) (tdP tb ci d w) := by unfold tdP; infer_instance

instance P_storable : (P (F := F) tb ci).IsStorable where
  st q d c := match q with
    | 0 => (inferInstance : BI.Storable (upEmb : UEmb _ 𝕄) (bigSep Finset.univ fun i : Fin ((K (F := F)).nSub 0) => goP tb ci d (wk c.val i.val)))
  dn q d c := match q with
    | 0 => (inferInstance : BI.Storable (upEmb : UEmb _ 𝕄) (bigSep Finset.univ fun i : Fin ((K (F := F)).nSub 0) => tdP tb ci d (wk c.val i.val)))
  go q d c i := match q with
    | 0 => (inferInstance : BI.Storable (upEmb : UEmb _ 𝕄) (goP tb ci d (wk c.val i.val)))
  td q d c i := match q with
    | 0 => (inferInstance : BI.Storable (upEmb : UEmb _ 𝕄) (tdP tb ci d (wk c.val i.val)))

/-! ## A task's obligation -/

/-- The grid coordinates of SparseCore `c` and vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tW (Memref.isWhole_whole _) cW (Memref.isWhole_whole _) oW (Memref.isWhole_whole _)
          sT (Memref.isWhole_whole _) sC (Memref.isWhole_whole _) sO (Memref.isWhole_whole _) cc1_scoped0 cc1_scoped1 cc1_scoped2) ⟨⟩ c s := rfl

/-- A kernel waits only where its own transfers land, which is among what the launch allows. -/
theorem obl_post {thr : Thread nD τ} {W : Waits sig (HIx 1)} {O : CellTallies nD τ sig (HIx 1)} {A B C : sProp 𝕄} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hci : ∀ i, ((ci : S32768.Idx → BitVec 32) i).toNat < 1280) (hF : (K (F := F)).Facts) :
    (K (F := F)).TileObl (D (F := F)) 𝒱 (P tb ci) v₀ 0 := by
  intro d c i O W hO _ _
  simp only [show (P (F := F) tb ci).ox = fun _ _ => 0 from rfl, add_zero]
  have hc : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hc, and_self, ↓reduceDIte]
  exact (tile_body d (coordsV ⟨_, hc.1⟩ ⟨_, hc.2⟩) tb ci hci hF O W hO).trans (wp_mono frame _ _ fun _ => obl_post)

theorem vecSplit : (K (F := F)).VecSplit' (P tb ci) 0 := by
  intro d c
  show (bigSep Finset.univ fun i : Fin ((K (F := F)).nSub 0) => goP tb ci d (wk c.val i.val))
    ⊢ |={Set.univ}=> iprop((bigSep Finset.univ fun i : Fin ((K (F := F)).nSub 0) => goP tb ci d (wk c.val i.val))
      ∗ ((bigSep Finset.univ fun i : Fin ((K (F := F)).nSub 0) => tdP tb ci d (wk c.val i.val))
        -∗ bigSep Finset.univ fun i : Fin ((K (F := F)).nSub 0) => tdP tb ci d (wk c.val i.val)))
  iintro H; imodintro
  isplitl [H]; · iexact H
  iintro H'; iexact H'

/-! ## The call's arrays, whole and by tasks -/

/-- Two halves of a range of `2 ^ (n + 1)`. -/
def halves (n : ℕ) : Fin (2 ^ n) ⊕ Fin (2 ^ n) ≃ Fin (2 ^ (n + 1)) := finSumFinEquiv.trans (finCongr (by rw [pow_succ, Nat.mul_two]))

/-- An array held at a share is held by the leaves of the share's halving. -/
theorem held_by_leaves {ℓ : Loc nD τ sig} (f : Buf (Elt F) ℓ) (n : ℕ) : ∀ q : PosShare TreeShare,
    (ℓ ↦{q} f : sProp 𝕄) = bigSep Finset.univ fun i : Fin (2 ^ n) => ℓ ↦{leafOf n q i.val} f := by
  induction n with
  | zero => exact fun q => (bigSep_univ_of_subsingleton (0 : Fin 1) (Φ := fun i : Fin (2 ^ 0) => (ℓ ↦{leafOf 0 q i.val} f : sProp 𝕄))).symm
  | succ n ih =>
    intro q
    have hq : (ℓ ↦{q} f : sProp 𝕄) = iprop((ℓ ↦{q.left} f) ∗ ℓ ↦{q.right} f) :=
      BI.Entails.antisymm (pointsTo_share (PosShare.mem_left_op_right q)).1 (pointsTo_share (PosShare.mem_left_op_right q)).2
    rw [hq, ih q.left, ih q.right, bigSep_univ_equiv (halves n), bigSep_univ_sum]
    congr 1
    · refine bigSep_congr fun i _ => ?_
      have e : (halves n (Sum.inl i)).val = i.val := by simp [halves]
      simp only [e, leafOf, if_pos i.isLt]
    · refine bigSep_congr fun i _ => ?_
      have e : (halves n (Sum.inr i)).val = 2 ^ n + i.val := by simp [halves, Nat.add_comm]
      have h : ¬ (2 ^ n + i.val < 2 ^ n) := by omega
      simp only [e, leafOf, if_neg h, Nat.add_sub_cancel_left]

theorem oRowSet_eq (w : Fin 32) : oRowSet w = (orow w).set := by
  show ((View.whole (main_v11_scv : Ref sig .scVector)).slice (orow w)).set = _
  rw [View.set_slice]; exact Finset.map_refl
theorem oRows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem oRows_cover : (Finset.univ : Finset (Fin 32)).biUnion oRowSet = Finset.univ :=
  (Finset.biUnion_congr rfl fun i _ => oRowSet_eq i).trans (Rect.biUnion_part odiv)

/-- The result is held by its rows. -/
theorem out_by_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet oRows_disjoint, oRows_cover]

/-- The thirty-two tasks, by SparseCore and subcore. -/
def tasks : Fin 2 × Fin 16 ≃ Fin 32 where
  toFun p := wk p.1.val p.2.val
  invFun w := (⟨w.val % 2, Nat.mod_lt _ (by decide)⟩, ⟨w.val / 2, by omega⟩)
  left_inv p := by
    obtain ⟨⟨c, hc⟩, ⟨i, hi⟩⟩ := p
    simp only [wk, Prod.mk.injEq, Fin.mk.injEq]
    omega
  right_inv w := by
    simp only [wk, Fin.ext_iff]
    omega

/-- What the tasks hold, summed by SparseCore and subcore, is what they hold summed by task. -/
theorem by_tasks (Φ : Fin 32 → sProp 𝕄) :
    (bigSep Finset.univ fun c : Fin ((K (F := F)).nCore 0) => bigSep Finset.univ fun i : Fin ((K (F := F)).nSub 0) => Φ (wk c.val i.val))
      = bigSep Finset.univ Φ := by
  show (bigSep Finset.univ fun c : Fin 2 => bigSep Finset.univ fun i : Fin 16 => Φ (wk c.val i.val)) = _
  rw [bigSep_univ_equiv tasks Φ, bigSep_univ_prod]
  rfl

/-- The table, the index list and the result's space whole are what the call starts from. -/
theorem start_intro (d : Dev nD) (fo : Buf (Elt F) (oLoc d)) :
    iprop((tLoc d ↦{fullShare} (tb : S20480.Idx → Elt F .f32)) ∗ (cLoc d ↦{fullShare} (ci : S32768.Idx → Elt F .i32)) ∗ oLoc d ↦{fullShare} fo)
      ⊢ bigSep Finset.univ fun c : Fin ((K (F := F)).nCore 0) => (P (F := F) tb ci).st 0 d c := by
  show _ ⊢ (bigSep Finset.univ fun c : Fin ((K (F := F)).nCore 0) => bigSep Finset.univ fun i : Fin ((K (F := F)).nSub 0) => goP tb ci d (wk c.val i.val))
  have hrows : (bigSep Finset.univ fun w : Fin 32 => (oLoc d ↦[oRowSet w]{fullShare} fo : sProp 𝕄))
      ⊢ bigSep Finset.univ fun w : Fin 32 => iprop(∃ f, oLoc d ↦[oRowSet w]{fullShare} f) :=
    bigSep_mono fun w _ => by
      show (oLoc d ↦[oRowSet w]{fullShare} fo : sProp 𝕄) ⊢ iprop(∃ f, oLoc d ↦[oRowSet w]{fullShare} f)
      iintro H; iexists fo; iexact H
  rw [by_tasks (F := F) (fun w => goP tb ci d w), held_by_leaves (ℓ := tLoc d) _ 5, held_by_leaves (ℓ := cLoc d) _ 5, out_by_rows]
  unfold goP
  rw [bigSep_sep', bigSep_sep']
  iintro ⟨Ht, Hc, Ho⟩
  isplitl [Ht]; · iexact Ht
  isplitl [Hc]; · iexact Hc
  iapply hrows; iexact Ho

/-- What the call ends with is the three arrays whole, the result gathered. -/
theorem done_elim (d : Dev nD) :
    (bigSep Finset.univ fun c : Fin ((K (F := F)).nCore 0) => (P (F := F) tb ci).dn 0 d c)
      ⊢ iprop((tLoc d ↦{fullShare} (tb : S20480.Idx → Elt F .f32)) ∗ (cLoc d ↦{fullShare} (ci : S32768.Idx → Elt F .i32))
        ∗ oLoc d ↦{fullShare} (gathered (F := F) tb ci : S32x9x1024.Idx → Elt F .f32)) := by
  show (bigSep Finset.univ fun c : Fin ((K (F := F)).nCore 0) => bigSep Finset.univ fun i : Fin ((K (F := F)).nSub 0) => tdP tb ci d (wk c.val i.val)) ⊢ _
  rw [by_tasks (F := F) (fun w => tdP tb ci d w), held_by_leaves (ℓ := tLoc d) _ 5, held_by_leaves (ℓ := cLoc d) _ 5, out_by_rows]
  unfold tdP
  rw [bigSep_sep', bigSep_sep']
  exact Entails.refl _

/-! ## The ghost state of the launch -/

/-- The handshakes' and the pipeline's rounds at their start. -/
def u₀ : UU :=
  (initOf (K (F := F)).hsCells (K (F := F)).hsToks,
    (initOf (Pipeline.cells (nD := nD) cfgs cellOf_inj) (Pipeline.launchToks (nD := nD) cfgs cellOf_inj), 1))

/-- What device `d`'s TensorCore is dealt for its pipelined call. -/
def G (d : Dev nD) : sProp 𝕄 := iprop(Pipeline.cellsGhost cfgs EP 0 d ∗ Pipeline.toksInit cfgs EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) tb ci).x q thr) := by
  have hP : (BI.own (embR ((initOf (Pipeline.cells (nD := nD) cfgs cellOf_inj) (Pipeline.launchToks (nD := nD) cfgs cellOf_inj), 1) : UP × Counters)) : sProp 𝕄)
      ⊢ BI.own (EP (initOf (Pipeline.cells (nD := nD) cfgs cellOf_inj) (Pipeline.launchToks (nD := nD) cfgs cellOf_inj))) :=
    (by unfold EP; exact (own_pair_emb (embR : Emb (UP × Counters) 𝕄) _ _).trans sep_elim_left)
  have h1 : (bigSep Finset.univ fun d : Dev nD => bigSep Finset.univ fun p => (Pipeline.cellsGhost cfgs EP p d : sProp 𝕄))
      = bigSep Finset.univ fun d : Dev nD => (Pipeline.cellsGhost cfgs EP 0 d : sProp 𝕄) :=
    bigSep_congr fun d _ => bigSep_univ_of_subsingleton (0 : Fin 1)
  have h2 : (bigSep Finset.univ fun d : Dev nD => bigSep Finset.univ fun p => (Pipeline.toksInit cfgs EP p d : sProp 𝕄))
      = bigSep Finset.univ fun d : Dev nD => (Pipeline.toksInit cfgs EP 0 d : sProp 𝕄) :=
    bigSep_congr fun d _ => bigSep_univ_of_subsingleton (0 : Fin 1)
  have he : (bigSep (Finset.univ : Finset (Thread nD τ)) fun _ => iprop(emp)) = (iprop(emp) : sProp 𝕄) := bigSep_emp_const _
  unfold u₀
  iintro Hu
  ihave H := (ownU_pair (initOf (K (F := F)).hsCells (K (F := F)).hsToks)
    (((initOf (Pipeline.cells (nD := nD) cfgs cellOf_inj) (Pipeline.launchToks (nD := nD) cfgs cellOf_inj), 1) : UP × Counters))) $$ Hu
  icases H with ⟨HH, HR⟩
  ihave HP := hP $$ HR
  imod (Pipeline.fund_ghost (nD := nD) cfgs EP cellOf_inj) $$ HP with ⟨Hg, Ht⟩
  imodintro
  isplitl [HH]; · iexact HH
  isplitl [Hg Ht]
  · unfold G
    rw [bigSep_sep']
    isplitl [Hg]
    · ihave Hg' := (Entails.of_eq h1) $$ Hg; iexact Hg'
    · ihave Ht' := (Entails.of_eq h2) $$ Ht; iexact Ht'
  rw [show (bigSep Finset.univ fun thr : Thread nD τ => bigSep Finset.univ fun q : Fin 1 => (P (F := F) tb ci).x q thr) = iprop(emp) from
    (bigSep_congr fun _ _ => bigSep_univ_of_subsingleton (0 : Fin 1)).trans he]
  iempintro

end Cert.Proof.KernelIdeal

end
-- ==== Proof.IdealRegion.lean ====
/-
  The TensorCore kernel that makes the table: its body run, its pipeline's proof data, and the region it is launched as.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.IdealCall
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionsLoop
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tW" => (Memref.whole Cert.KernelIdeal.main_v10_scv : Memref Cert.KernelIdeal.sig Kind.scVector Space.hbm Cert.KernelIdeal.S20480 EltTy.f32)
local notation "cW" => (Memref.whole Cert.KernelIdeal.main_c_scv : Memref Cert.KernelIdeal.sig Kind.scVector Space.hbm Cert.KernelIdeal.S32768 EltTy.i32)
local notation "oW" => (Memref.whole Cert.KernelIdeal.main_v11_scv : Memref Cert.KernelIdeal.sig Kind.scVector Space.hbm Cert.KernelIdeal.S32x9x1024 EltTy.f32)
local notation "sT" => (Memref.whole Cert.KernelIdeal.cc1_scratch0 : Memref Cert.KernelIdeal.sig Kind.scVector Space.vmem Cert.KernelIdeal.S20480 EltTy.f32)
local notation "sC" => (Memref.whole Cert.KernelIdeal.cc1_scratch1 : Memref Cert.KernelIdeal.sig Kind.scVector Space.vmem Cert.KernelIdeal.S1024 EltTy.i32)
local notation "sO" => (Memref.whole Cert.KernelIdeal.cc1_scratch2 : Memref Cert.KernelIdeal.sig Kind.scVector Space.vmem Cert.KernelIdeal.S9x1024 EltTy.f32)

open Idealize.ShloMosaic.TcCoe
open Idealize.ShloMosaic.Pipeline (Dat Window BodyObligation)

/-- Memref `M`'s buffer on core `c`, and it held whole at contents `f`. -/
abbrev Bf (c : Dev nD) {sp : Space} {S : Shape} {e : EltTy} (M : Memref sig .tc sp S e) : Type := Buf (Elt F) (M.view.loc (c : Thread nD τ))
abbrev held1 (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in its result's staging buffer, as a function of what the eleven others hold, with the proof
    that it runs to its end from all twelve held whole and hands the eleven back as they were. -/
noncomputable def bodyRun (c : Dev nD) (M0 : Memref sig .tc .smem S3x3 .f32) (h0 : M0.IsWhole) (M1 : Memref sig .tc .smem S5x5 .f32) (h1 : M1.IsWhole) (M2 : Memref sig .tc .smem S7x7 .f32) (h2 : M2.IsWhole) (M3 : Memref sig .tc .smem S1 .f32) (h3 : M3.IsWhole) (M4 : Memref sig .tc .smem S1 .f32) (h4 : M4.IsWhole) (M5 : Memref sig .tc .smem S1 .f32) (h5 : M5.IsWhole) (M6 : Memref sig .tc .vmem S5x256x625 .f32) (h6 : M6.IsWhole) (M7 : Memref sig .tc .vmem S16x256 .f32) (h7 : M7.IsWhole) (M8 : Memref sig .tc .vmem S1x16 .f32) (h8 : M8.IsWhole) (M9 : Memref sig .tc .vmem S256x16 .f32) (h9 : M9.IsWhole) (M10 : Memref sig .tc .vmem S1x256 .f32) (h10 : M10.IsWhole) (M11 : Memref sig .tc .vmem S5x256x16 .f32) (h11 : M11.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    { W : Bf (F := F) c M11 // ∀ (f11 : Bf (F := F) c M11) (E : Set ℕ) (Q : PUnit → sProp 𝕄),
        iprop(held1 c M0 f0 ∗ held1 c M1 f1 ∗ held1 c M2 f2 ∗ held1 c M3 f3 ∗ held1 c M4 f4 ∗ held1 c M5 f5 ∗ held1 c M6 f6 ∗ held1 c M7 f7 ∗ held1 c M8 f8 ∗ held1 c M9 f9 ∗ held1 c M10 f10 ∗ held1 c M11 f11
            ∗ (iprop(held1 c M0 f0 ∗ held1 c M1 f1 ∗ held1 c M2 f2 ∗ held1 c M3 f3 ∗ held1 c M4 f4 ∗ held1 c M5 f5 ∗ held1 c M6 f6 ∗ held1 c M7 f7 ∗ held1 c M8 f8 ∗ held1 c M9 f9 ∗ held1 c M10 f10 ∗ held1 c M11 W) -∗ Q ⟨⟩))
          ⊢ wp frame (wpE (defs₀ (F := F)) Variants.none c none) E (cc0__tc_table_body M0 h0 M1 h1 M2 h2 M3 h3 M4 h4 M5 h5 M6 h6 M7 h7 M8 h8 M9 h9 M10 h10 M11 h11) Q } := by
  refine ⟨?_, fun f11 E Q => ?run⟩
  case run =>
    iintro ⟨H0, H1, H2, H3, H4, H5, H6, H7, H8, H9, H10, H11, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-! ## The proof data, over the buffers' contents where the region is entered -/

variable (V : (c : Dev nD) → (b : Ref sig .tc) → Buf (Elt F) ((c : Thread nD τ).loc b))

/-- Window 0's block: what the fetch leaves in its staging buffer. -/
abbrev blk0 (c : Dev nD) : (cfg0.win 0).block.Idx → Elt F (cfg0.win 0).elt := ((cfg0.win 0).blk t0_0).view.read (Elt F) (V c main_v2)
/-- Window 1's block: what the fetch leaves in its staging buffer. -/
abbrev blk1 (c : Dev nD) : (cfg0.win 1).block.Idx → Elt F (cfg0.win 1).elt := ((cfg0.win 1).blk t0_0).view.read (Elt F) (V c main_v3)
/-- Window 2's block: what the fetch leaves in its staging buffer. -/
abbrev blk2 (c : Dev nD) : (cfg0.win 2).block.Idx → Elt F (cfg0.win 2).elt := ((cfg0.win 2).blk t0_0).view.read (Elt F) (V c main_v4)
/-- Window 3's block: what the fetch leaves in its staging buffer. -/
abbrev blk3 (c : Dev nD) : (cfg0.win 3).block.Idx → Elt F (cfg0.win 3).elt := ((cfg0.win 3).blk t0_0).view.read (Elt F) (V c main_arg2)
/-- Window 4's block: what the fetch leaves in its staging buffer. -/
abbrev blk4 (c : Dev nD) : (cfg0.win 4).block.Idx → Elt F (cfg0.win 4).elt := ((cfg0.win 4).blk t0_0).view.read (Elt F) (V c main_arg4)
/-- Window 5's block: what the fetch leaves in its staging buffer. -/
abbrev blk5 (c : Dev nD) : (cfg0.win 5).block.Idx → Elt F (cfg0.win 5).elt := ((cfg0.win 5).blk t0_0).view.read (Elt F) (V c main_arg6)
/-- Window 6's block: what the fetch leaves in its staging buffer. -/
abbrev blk6 (c : Dev nD) : (cfg0.win 6).block.Idx → Elt F (cfg0.win 6).elt := ((cfg0.win 6).blk t0_0).view.read (Elt F) (V c main_v1)
/-- Window 7's block: what the fetch leaves in its staging buffer. -/
abbrev blk7 (c : Dev nD) : (cfg0.win 7).block.Idx → Elt F (cfg0.win 7).elt := ((cfg0.win 7).blk t0_0).view.read (Elt F) (V c main_v5)
/-- Window 8's block: what the fetch leaves in its staging buffer. -/
abbrev blk8 (c : Dev nD) : (cfg0.win 8).block.Idx → Elt F (cfg0.win 8).elt := ((cfg0.win 8).blk t0_0).view.read (Elt F) (V c main_v7)
/-- Window 9's block: what the fetch leaves in its staging buffer. -/
abbrev blk9 (c : Dev nD) : (cfg0.win 9).block.Idx → Elt F (cfg0.win 9).elt := ((cfg0.win 9).blk t0_0).view.read (Elt F) (V c main_v6)
/-- Window 10's block: what the fetch leaves in its staging buffer. -/
abbrev blk10 (c : Dev nD) : (cfg0.win 10).block.Idx → Elt F (cfg0.win 10).elt := ((cfg0.win 10).blk t0_0).view.read (Elt F) (V c main_v8)

/-- The body's run over the fetched blocks. -/
abbrev runAt (c : Dev nD) :=
  bodyRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0)
    (blk0 V c) (blk1 V c) (blk2 V c) (blk3 V c) (blk4 V c) (blk5 V c) (blk6 V c) (blk7 V c) (blk8 V c) (blk9 V c) (blk10 V c)

/-- Before and after the body: the scoped buffers that are not staging buffers, at some contents. -/
abbrev rest0 (c : Dev nD) : sProp 𝕄 := Pipeline.scopedRest (Ix := HIx 1) (Name := ℕ) (U := UU) (Lvl := ℕ) (Val := Elt F) spec0 c

/-- The region's proof data: the arrays as entered, each staging buffer as fetched, the result's at the run's contents.
    The core owes what it owes at the SparseCore call throughout, and has waited at the lowest level alone. -/
def tdat (c : Dev nD) : Dat τ (Elt F) (HIx 1) ℕ UU ℕ cfg0 c where
  A w := V c (Pipeline.arrRef spec0 w)
  after w _ := match w with
    | ⟨0, _⟩ => blk0 V c
    | ⟨1, _⟩ => blk1 V c
    | ⟨2, _⟩ => blk2 V c
    | ⟨3, _⟩ => blk3 V c
    | ⟨4, _⟩ => blk4 V c
    | ⟨5, _⟩ => blk5 V c
    | ⟨6, _⟩ => blk6 V c
    | ⟨7, _⟩ => blk7 V c
    | ⟨8, _⟩ => blk8 V c
    | ⟨9, _⟩ => blk9 V c
    | ⟨10, _⟩ => blk10 V c
    | ⟨11, _⟩ => (runAt V c).1
  Φ _ := rest0 c
  q _ := fullShare
  owed _ := (K (F := F)).Otc c 0
  recorded _ := {p | (K (F := F)).lev (SparseCore.T c, p.1) p.2 ≤ 0}

/-- No table is prefetched. -/
abbrev noTab : (p : Fin 1) → (pcfgs (F := F) p).Adm := fun p => (cfgs p).toPCfg_adm

/-- The data of the program's one pipeline. -/
def tdats : (p : Fin 1) → (c : Dev nD) → Dat τ (Elt F) (HIx 1) ℕ UU ℕ (Pipeline.pin (pcfgs (F := F)) noTab p) c
  | ⟨0, _⟩ => fun c => tdat V c

theorem fetched0 (c : Dev nD) (d : (cfg0.win 0).block.Idx → Elt F (cfg0.win 0).elt) : (tdat V c).before 0 t0_0 d = blk0 V c := by
  unfold Dat.before; rw [if_pos (by decide)]; rfl
theorem fetched1 (c : Dev nD) (d : (cfg0.win 1).block.Idx → Elt F (cfg0.win 1).elt) : (tdat V c).before 1 t0_0 d = blk1 V c := by
  unfold Dat.before; rw [if_pos (by decide)]; rfl
theorem fetched2 (c : Dev nD) (d : (cfg0.win 2).block.Idx → Elt F (cfg0.win 2).elt) : (tdat V c).before 2 t0_0 d = blk2 V c := by
  unfold Dat.before; rw [if_pos (by decide)]; rfl
theorem fetched3 (c : Dev nD) (d : (cfg0.win 3).block.Idx → Elt F (cfg0.win 3).elt) : (tdat V c).before 3 t0_0 d = blk3 V c := by
  unfold Dat.before; rw [if_pos (by decide)]; rfl
theorem fetched4 (c : Dev nD) (d : (cfg0.win 4).block.Idx → Elt F (cfg0.win 4).elt) : (tdat V c).before 4 t0_0 d = blk4 V c := by
  unfold Dat.before; rw [if_pos (by decide)]; rfl
theorem fetched5 (c : Dev nD) (d : (cfg0.win 5).block.Idx → Elt F (cfg0.win 5).elt) : (tdat V c).before 5 t0_0 d = blk5 V c := by
  unfold Dat.before; rw [if_pos (by decide)]; rfl
theorem fetched6 (c : Dev nD) (d : (cfg0.win 6).block.Idx → Elt F (cfg0.win 6).elt) : (tdat V c).before 6 t0_0 d = blk6 V c := by
  unfold Dat.before; rw [if_pos (by decide)]; rfl
theorem fetched7 (c : Dev nD) (d : (cfg0.win 7).block.Idx → Elt F (cfg0.win 7).elt) : (tdat V c).before 7 t0_0 d = blk7 V c := by
  unfold Dat.before; rw [if_pos (by decide)]; rfl
theorem fetched8 (c : Dev nD) (d : (cfg0.win 8).block.Idx → Elt F (cfg0.win 8).elt) : (tdat V c).before 8 t0_0 d = blk8 V c := by
  unfold Dat.before; rw [if_pos (by decide)]; rfl
theorem fetched9 (c : Dev nD) (d : (cfg0.win 9).block.Idx → Elt F (cfg0.win 9).elt) : (tdat V c).before 9 t0_0 d = blk9 V c := by
  unfold Dat.before; rw [if_pos (by decide)]; rfl
theorem fetched10 (c : Dev nD) (d : (cfg0.win 10).block.Idx → Elt F (cfg0.win 10).elt) : (tdat V c).before 10 t0_0 d = blk10 V c := by
  unfold Dat.before; rw [if_pos (by decide)]; rfl

/-- The body runs from the staging buffers as fetched and leaves them as the proof data says. -/
theorem body_runs (c : Dev nD) : BodyObligation (tdat V c) (defs₀ (F := F)) 𝒱₀ none Set.univ := fun t => by
  obtain rfl := fin_N0 t
  rw [bigSep_W0, bigSep_W0]
  simp only [owns_whole_eq]
  rw [show (tdat V c).Φ t0_0.castSucc = rest0 c from rfl, show (tdat V c).Φ t0_0.succ = rest0 c from rfl,
    show (tdat V c).owesAt none t0_0.succ = (tdat V c).owesAt none t0_0.castSucc from rfl]
  iintro ⟨Hrest, Howes, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, -, H11⟩⟩
  rw [fetched0] at e0; subst e0
  rw [fetched1] at e1; subst e1
  rw [fetched2] at e2; subst e2
  rw [fetched3] at e3; subst e3
  rw [fetched4] at e4; subst e4
  rw [fetched5] at e5; subst e5
  rw [fetched6] at e6; subst e6
  rw [fetched7] at e7; subst e7
  rw [fetched8] at e8; subst e8
  rw [fetched9] at e9; subst e9
  rw [fetched10] at e10; subst e10
  iapply ((runAt V c).2 f11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [Hrest]; · iexact Hrest
  isplitl [Howes]; · iexact Howes
  isplitl [H0]; · iexists _; isplitr; swap; (· iexact H0); ipureintro; dsimp only [tdat]
  isplitl [H1]; · iexists _; isplitr; swap; (· iexact H1); ipureintro; dsimp only [tdat]
  isplitl [H2]; · iexists _; isplitr; swap; (· iexact H2); ipureintro; dsimp only [tdat]
  isplitl [H3]; · iexists _; isplitr; swap; (· iexact H3); ipureintro; dsimp only [tdat]
  isplitl [H4]; · iexists _; isplitr; swap; (· iexact H4); ipureintro; dsimp only [tdat]
  isplitl [H5]; · iexists _; isplitr; swap; (· iexact H5); ipureintro; dsimp only [tdat]
  isplitl [H6]; · iexists _; isplitr; swap; (· iexact H6); ipureintro; dsimp only [tdat]
  isplitl [H7]; · iexists _; isplitr; swap; (· iexact H7); ipureintro; dsimp only [tdat]
  isplitl [H8]; · iexists _; isplitr; swap; (· iexact H8); ipureintro; dsimp only [tdat]
  isplitl [H9]; · iexists _; isplitr; swap; (· iexact H9); ipureintro; dsimp only [tdat]
  isplitl [H10]; · iexists _; isplitr; swap; (· iexact H10); ipureintro; dsimp only [tdat]
  iexists _; isplitr; swap; (· iexact H11); ipureintro; dsimp only [tdat]

/-! ## The region -/

theorem Otc_none (c : Dev nD) (g : GSem nD τ sig) : (K (F := F)).Otc (N := 1) c 0 g none = 0 := by
  by_contra h
  have := (K (F := F)).lev_of_Otc_pos (Nat.pos_of_ne_zero h)
  simp at this

/-- What the region leaves in the result's array. -/
def table (c : Dev nD) : Buf (Elt F) ((c : Thread nD τ).loc main_v9) := (tdat V c).arrAt 11 cfg0.N

variable (V' : (c : Dev nD) → (b : Ref sig .tc) → Buf (Elt F) ((c : Thread nD τ).loc b))

set_option backward.isDefEq.respectTransparency.types false in
/-- The region, entered with the unscoped buffers at `V` and left with them at `V'`, which differs from `V` at the
    result's array alone. -/
def region (hres : ∀ c, V' c main_v9 = table V c) (hoff : ∀ c (b : Ref sig .tc), b ≠ main_v9 → V' c b = V c b) :
    Pipeline.RegionSeg (pcfgs (F := F)) noTab (tdats V) none defs₀ 𝒱₀ ((K (F := F)).L) ((K (F := F)).lev) 0 where
  win := launch0.win.to₀
  block_pos := launch0.block_pos
  stage_whole := launch0.stage_whole
  K := PEmpty
  osem k := k.elim
  ho := Pipeline.OwnSemFacts.none _
  hbody c := (body_runs V c).loose
  hwaits c := Pipeline.cellsWaits_intro _ _ none 0 c fun w s t => (K (F := F)).mayWait_none _ (Otc_none c)
  pre c := iprop(unscopedBufs c (V c) ∗ ∃ W, ⌜(K (F := F)).WBelow (SparseCore.T c) W 0⌝ ∗ owes (c : Thread nD τ) ((K (F := F)).Otc c 0) W)
  post c := iprop(unscopedBufs c (V' c) ∗ ∃ W, ⌜(K (F := F)).WBelow (SparseCore.T c) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) noTab (tdats V) launch0.win launch0.arr_whole c
      ((tdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (tdats V 0 c).Φ 0 = rest0 c from rfl]
    iintro ⟨-, -, Hr⟩; iexact Hr
  hout c := by
    rw [Pipeline.ownSems0_none, show (tdats V 0 c).Φ (Fin.last _) = rest0 c from rfl]
    iintro Hr
    isplitr; · iempintro
    isplitr; · iempintro
    iexact Hr
  hexit c := by
    have hjoin := Pipeline.unscopedBufs_of_arrays (p := 0) (pcfgs (F := F)) noTab (Ix := HIx 1) (Name := ℕ) (U := UU) (Lvl := ℕ) launch0.win launch0.arr_whole c
      (tdats V) ((tdats V 0 c).share_full fun _ => rfl) (V c) (V' c) ((tdats V 0 c).arrAt · cfg0.N)
      (fun w => by
        fin_cases w
        · exact ((tdats V 0 c).arrAt_in 0 rfl _).trans (hoff c main_v2 (by decide)).symm
        · exact ((tdats V 0 c).arrAt_in 1 rfl _).trans (hoff c main_v3 (by decide)).symm
        · exact ((tdats V 0 c).arrAt_in 2 rfl _).trans (hoff c main_v4 (by decide)).symm
        · exact ((tdats V 0 c).arrAt_in 3 rfl _).trans (hoff c main_arg2 (by decide)).symm
        · exact ((tdats V 0 c).arrAt_in 4 rfl _).trans (hoff c main_arg4 (by decide)).symm
        · exact ((tdats V 0 c).arrAt_in 5 rfl _).trans (hoff c main_arg6 (by decide)).symm
        · exact ((tdats V 0 c).arrAt_in 6 rfl _).trans (hoff c main_v1 (by decide)).symm
        · exact ((tdats V 0 c).arrAt_in 7 rfl _).trans (hoff c main_v5 (by decide)).symm
        · exact ((tdats V 0 c).arrAt_in 8 rfl _).trans (hoff c main_v7 (by decide)).symm
        · exact ((tdats V 0 c).arrAt_in 9 rfl _).trans (hoff c main_v6 (by decide)).symm
        · exact ((tdats V 0 c).arrAt_in 10 rfl _).trans (hoff c main_v8 (by decide)).symm
        · exact (hres c).symm)
      (fun b hb => hoff c b fun h => hb (h ▸ Finset.mem_image.mpr ⟨11, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, h⟩
      · exact h
      · rw [h]; exact le_of_eq (by simp)
    iexact HO

end Cert.Proof.KernelIdeal

end
-- ==== Proof.IdealMain.lean ====
/-
  The whole program's run: its host operations, the table's kernel, the SparseCore call, and what every buffer holds at
  the end.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.IdealRegion
public import Idealize.ShloMosaic.Lib.Pipeline.Frame
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "tW" => (Memref.whole Cert.KernelIdeal.main_v10_scv : Memref Cert.KernelIdeal.sig Kind.scVector Space.hbm Cert.KernelIdeal.S20480 EltTy.f32)
local notation "cW" => (Memref.whole Cert.KernelIdeal.main_c_scv : Memref Cert.KernelIdeal.sig Kind.scVector Space.hbm Cert.KernelIdeal.S32768 EltTy.i32)
local notation "oW" => (Memref.whole Cert.KernelIdeal.main_v11_scv : Memref Cert.KernelIdeal.sig Kind.scVector Space.hbm Cert.KernelIdeal.S32x9x1024 EltTy.f32)
local notation "sT" => (Memref.whole Cert.KernelIdeal.cc1_scratch0 : Memref Cert.KernelIdeal.sig Kind.scVector Space.vmem Cert.KernelIdeal.S20480 EltTy.f32)
local notation "sC" => (Memref.whole Cert.KernelIdeal.cc1_scratch1 : Memref Cert.KernelIdeal.sig Kind.scVector Space.vmem Cert.KernelIdeal.S1024 EltTy.i32)
local notation "sO" => (Memref.whole Cert.KernelIdeal.cc1_scratch2 : Memref Cert.KernelIdeal.sig Kind.scVector Space.vmem Cert.KernelIdeal.S9x1024 EltTy.f32)

open Idealize.ShloMosaic.TcCoe
open Idealize.ShloMosaic.StableHlo (launchContents after held)

variable (m : (ℓ : Loc nD τ sig) → Buf (Elt F) ℓ) (ρ : Dev nD → PrngReg)

/-! ## The buffers' contents between the program's steps -/

/-- The host operations before the table's kernel, -/
def opsA : List (HloOp τ sig (Elt F)) := [
    StableHlo.nullary main_c (fun i => lit0 (S32768.rowMajor i)),
    StableHlo.unary main_arg0 main_v0 ((extractStridedSlice S5x256x25x25 ![0, 0, 0, 0] · slices_S64x256x25x25_S5x256x25x25_0_0_0_0) : (⟨S64x256x25x25, .f32⟩ : BufTy).Contents (Elt F) → (⟨S5x256x25x25, .f32⟩ : BufTy).Contents (Elt F)),
    StableHlo.reshape main_v0 main_v1 (rfl : (.f32 : EltTy) = .f32) shapeCasts_S5x256x25x25_S5x256x625,
    StableHlo.reshape main_arg1 main_v2 (rfl : (.f32 : EltTy) = .f32) shapeCasts_S1x1x3x3_S3x3,
    StableHlo.reshape main_arg3 main_v3 (rfl : (.f32 : EltTy) = .f32) shapeCasts_S1x1x5x5_S5x5,
    StableHlo.reshape main_arg5 main_v4 (rfl : (.f32 : EltTy) = .f32) shapeCasts_S1x1x7x7_S7x7,
    StableHlo.reshape main_arg7 main_v5 (rfl : (.f32 : EltTy) = .f32) shapeCasts_S16x256x1x1_S16x256,
    StableHlo.reshape main_arg9 main_v6 (rfl : (.f32 : EltTy) = .f32) shapeCasts_S256x16x1x1_S256x16,
    StableHlo.reshape main_arg8 main_v7 (rfl : (.f32 : EltTy) = .f32) shapeCasts_S16_S1x16,
    StableHlo.reshape main_arg10 main_v8 (rfl : (.f32 : EltTy) = .f32) shapeCasts_S256_S1x256]

/-- between it and the SparseCore call, -/
def opsB : List (HloOp τ sig (Elt F)) := [
    StableHlo.reshape main_v9 main_v10 (rfl : (.f32 : EltTy) = .f32) shapeCasts_S5x256x16_S20480]

/-- and after the call. -/
def opsC : List (HloOp τ sig (Elt F)) := [
    StableHlo.unary main_v11 main_v12 ((transpose S32x1024x9 [0, 2, 1] · transposes_S32x9x1024_S32x1024x9_0_2_1) : (⟨S32x9x1024, .f32⟩ : BufTy).Contents (Elt F) → (⟨S32x1024x9, .f32⟩ : BufTy).Contents (Elt F)),
    StableHlo.reshape main_v12 main_v13 (rfl : (.f32 : EltTy) = .f32) shapeCasts_S32x1024x9_S32768x9,
    StableHlo.unary main_v13 main_v14 ((extractStridedSlice S32000x9 ![0, 0] · slices_S32768x9_S32000x9_0_0) : (⟨S32768x9, .f32⟩ : BufTy).Contents (Elt F) → (⟨S32000x9, .f32⟩ : BufTy).Contents (Elt F)),
    StableHlo.reshape main_v14 main_v15 (rfl : (.f32 : EltTy) = .f32) shapeCasts_S32000x9_S64x5x100x3x3]

/-- The contents where the table's kernel is entered, -/
def W1 (d : Dev nD) : Valuation τ sig (Elt F) := after opsA (launchContents m d)

/-- where it is left, -/
def W2 (d : Dev nD) : Valuation τ sig (Elt F) :=
  Function.update (W1 m d) (Proc.devRef .tc main_v9) (table (fun c b => W1 m c b) d)

/-- where the SparseCore call is entered, -/
def W3 (d : Dev nD) : Valuation τ sig (Elt F) := after opsB (W2 m d)

/-- The table and the index list as the call reads them. -/
def tbl : Buf (Elt F) (tLoc 0) := W3 m 0 (Proc.devRef .tc main_v10)
def ixl : Buf (Elt F) (cLoc 0) := W3 m 0 (Proc.devRef .tc main_c)

/-- where it is left, -/
def W4 (d : Dev nD) : Valuation τ sig (Elt F) :=
  Function.update (W3 m d) (Proc.devRef .tc main_v11) (gathered (tbl m) (ixl m))

/-- and at the end. -/
def W5 (d : Dev nD) : Valuation τ sig (Elt F) := after opsC (W4 m d)

theorem opsA_in : ∀ op ∈ (opsA : List (HloOp τ sig (Elt F))), op.bufs ⊆ Pipeline.ucRefs τ sig := by
  intro op h
  refine Pipeline.sub_ucRefs op ?_
  revert op
  simp only [opsA, List.forall_mem_cons, List.not_mem_nil, false_imp_iff, implies_true, and_true]
  exact ⟨StableHlo.nullary_bufs_sub _ _ _, StableHlo.unary_bufs_sub _ _ _ _ _, StableHlo.reshape_bufs_sub _ _ _ _ _ _, StableHlo.reshape_bufs_sub _ _ _ _ _ _, StableHlo.reshape_bufs_sub _ _ _ _ _ _, StableHlo.reshape_bufs_sub _ _ _ _ _ _, StableHlo.reshape_bufs_sub _ _ _ _ _ _, StableHlo.reshape_bufs_sub _ _ _ _ _ _, StableHlo.reshape_bufs_sub _ _ _ _ _ _, StableHlo.reshape_bufs_sub _ _ _ _ _ _⟩
theorem opsA_det : ∀ op ∈ (opsA : List (HloOp τ sig (Elt F))), op.fresh = ∅ := by
  simp only [opsA, List.forall_mem_cons, List.not_mem_nil, false_imp_iff, implies_true, and_true]
  exact ⟨rfl, rfl, rfl, rfl, rfl, rfl, rfl, rfl, rfl, rfl⟩
theorem opsB_in : ∀ op ∈ (opsB : List (HloOp τ sig (Elt F))), op.bufs ⊆ Pipeline.ucRefs τ sig := by
  intro op h
  refine Pipeline.sub_ucRefs op ?_
  revert op
  simp only [opsB, List.forall_mem_cons, List.not_mem_nil, false_imp_iff, implies_true, and_true]
  exact StableHlo.reshape_bufs_sub _ _ _ _ _ _
theorem opsB_det : ∀ op ∈ (opsB : List (HloOp τ sig (Elt F))), op.fresh = ∅ := by
  simp only [opsB, List.forall_mem_cons, List.not_mem_nil, false_imp_iff, implies_true, and_true]
  rfl
theorem opsC_in : ∀ op ∈ (opsC : List (HloOp τ sig (Elt F))), op.bufs ⊆ Pipeline.ucRefs τ sig := by
  intro op h
  refine Pipeline.sub_ucRefs op ?_
  revert op
  simp only [opsC, List.forall_mem_cons, List.not_mem_nil, false_imp_iff, implies_true, and_true]
  exact ⟨StableHlo.unary_bufs_sub _ _ _ _ _, StableHlo.reshape_bufs_sub _ _ _ _ _ _, StableHlo.unary_bufs_sub _ _ _ _ _, StableHlo.reshape_bufs_sub _ _ _ _ _ _⟩
theorem opsC_det : ∀ op ∈ (opsC : List (HloOp τ sig (Elt F))), op.fresh = ∅ := by
  simp only [opsC, List.forall_mem_cons, List.not_mem_nil, false_imp_iff, implies_true, and_true]
  exact ⟨rfl, rfl, rfl, rfl⟩

/-- The program: operations, the table's kernel, an operation, the SparseCore call, operations. -/
theorem main_parts (d : Dev nD) : main (F := F) d =
    (StableHlo.seq opsA >>= fun _ => SparseCore.liftProg (Prog.lift (.customCall (Pipeline.entry 0) ())) >>= fun _ =>
      StableHlo.seq opsB >>= fun _ => (K (F := F)).run d 0 >>= fun _ => StableHlo.seq opsC >>= fun _ => pure ⟨⟩) := rfl

theorem ref_ne {b b' : Ref sig .tc} (h : b ≠ b') : Proc.devRef (τ := τ) .tc b ≠ Proc.devRef .tc b' := fun e => h (Proc.devRef_injective _ e)

/-! ## What each step leaves alone -/

theorem W2_off (d : Dev nD) (b : Ref sig .tc) (h : b ≠ main_v9) : W2 m d b = W1 m d b := Function.update_of_ne (ref_ne h) _ _
theorem W2_table (d : Dev nD) : W2 m d main_v9 = table (fun c b => W1 m c b) d := Function.update_self ..
theorem W3_off (d : Dev nD) (b : Ref sig .tc) (h : b ≠ main_v10) : W3 m d b = W2 m d b := StableHlo.reshape_result_ne (x := main_v9) (y := main_v10) _ _ _ _ _ h
theorem W4_off (d : Dev nD) (b : Ref sig .tc) (h : b ≠ main_v11) : W4 m d b = W3 m d b := Function.update_of_ne (ref_ne h) _ _
theorem W4_out (d : Dev nD) : W4 m d main_v11 = gathered (tbl m) (ixl m) := Function.update_self ..

/-- The index list, where the SparseCore call reads it, is the program's constant. -/
theorem ixl_eq : ixl m = (fun i => lit0 (S32768.rowMajor i) : S32768.Idx → BitVec 32) := by
  unfold ixl
  refine ((W3_off m 0 main_c (by decide)).trans (W2_off m 0 main_c (by decide))).trans ?_
  unfold W1 opsA
  after_results_simp
  rfl

/-- Every word of it is below the table's 1280 rows, where the constant's words are. -/
theorem ixl_lt (hl : ∀ i : Fin 32768, (lit0 i).toNat < 1280) (i) : ((ixl m : S32768.Idx → BitVec 32) i).toNat < 1280 := by
  rw [ixl_eq]; exact hl _

/-! ## The three buffers of the SparseCore call, out of all of them -/

def callRefs : Finset (DevRef τ sig) := {Proc.devRef .tc main_v10, Proc.devRef .tc main_c, Proc.devRef .tc main_v11}

theorem callRefs_sub : callRefs ⊆ Pipeline.ucRefs τ sig := by
  intro b hb
  simp only [callRefs, Finset.mem_insert, Finset.mem_singleton] at hb
  rcases hb with rfl | rfl | rfl <;>
    exact Finset.mem_filter.mpr ⟨StableHlo.devRef_mem_tcRefs _, by decide⟩

theorem held_call (d : Dev nD) (V : Valuation τ sig (Elt F)) : (held (d.tc : Thread nD τ) callRefs V : sProp 𝕄) =
    iprop((tLoc d ↦{fullShare} (V (Proc.devRef .tc main_v10))) ∗ (cLoc d ↦{fullShare} (V (Proc.devRef .tc main_c))) ∗ (oLoc d ↦{fullShare} (V (Proc.devRef .tc main_v11)))) := by
  unfold held callRefs
  rw [SparseCore.bigSep_insert' (by simp only [Finset.mem_insert, Finset.mem_singleton, not_or]; exact ⟨ref_ne (by decide), ref_ne (by decide)⟩),
    SparseCore.bigSep_insert' (by simp only [Finset.mem_singleton]; exact ref_ne (by decide)), bigSep_singleton]

theorem rest_call (d : Dev nD) : (held (d.tc : Thread nD τ) (Pipeline.ucRefs τ sig \ callRefs) (W3 m d) : sProp 𝕄)
    = held (d.tc : Thread nD τ) (Pipeline.ucRefs τ sig \ callRefs) (W4 m d) := by
  refine StableHlo.held_congr _ fun b hb => ?_
  refine (Function.update_of_ne (fun e => (Finset.mem_sdiff.mp hb).2 ?_) _ _).symm
  rw [e]; simp [callRefs]

/-! ## The run -/

def FIN (d : Dev nD) : sProp 𝕄 := held (d.tc : Thread nD τ) (Pipeline.ucRefs τ sig) (W5 m d)

set_option maxRecDepth 16384 in
theorem hmain [∀ e, Nonempty (Elt F e)] (κ : GSem nD τ sig → ℕ) (d : Dev nD) :
    iprop((K (F := F)).ctx EH (P (tbl m) (ixl m)) κ ∗ (K (F := F)).tcSt EH d 0 ∗ (K (F := F)).tcRes m ρ d ∗ G (F := F) d)
      ⊢ wp frame (wpE ((K (F := F)).defs D) 𝒱 (T d) none) Set.univ (main d)
          fun _ => iprop((K (F := F)).tcSt EH d 1 ∗ FIN m d ∗ (K (F := F)).tcEnd d : sProp 𝕄) := by
  rw [main_parts]
  unfold SparseCore.Cfg.tcRes SparseCore.Cfg.tcEnd G
  have e0 := Pipeline.unscopedBufs_held (Ix := HIx 1) (Name := ℕ) (U := UU) (Lvl := ℕ) d (launchContents m d)
  have e1 : (held (d.tc : Thread nD τ) (Pipeline.ucRefs τ sig) (after opsA (launchContents m d)) : sProp 𝕄) ⊢ unscopedBufs d (fun b => W1 m d b) :=
    Entails.of_eq (Pipeline.unscopedBufs_held (Ix := HIx 1) (Name := ℕ) (U := UU) (Lvl := ℕ) d (W1 m d)).symm
  have e3 : (held (d.tc : Thread nD τ) (Pipeline.ucRefs τ sig) (after opsB (W2 m d)) : sProp 𝕄)
      ⊢ iprop(held (d.tc : Thread nD τ) callRefs (W3 m d) ∗ held (d.tc : Thread nD τ) (Pipeline.ucRefs τ sig \ callRefs) (W3 m d)) :=
    Entails.of_eq (StableHlo.held_sub_split (Ix := HIx 1) (Name := ℕ) (U := UU) (Lvl := ℕ) (d.tc : Thread nD τ) callRefs_sub (W3 m d))
  have e4 : iprop(((tLoc d ↦{fullShare} (W4 m d (Proc.devRef .tc main_v10))) ∗ (cLoc d ↦{fullShare} (W4 m d (Proc.devRef .tc main_c))) ∗ (oLoc d ↦{fullShare} (W4 m d (Proc.devRef .tc main_v11))))
        ∗ held (d.tc : Thread nD τ) (Pipeline.ucRefs τ sig \ callRefs) (W3 m d))
      ⊢ (held (d.tc : Thread nD τ) (Pipeline.ucRefs τ sig) (W4 m d) : sProp 𝕄) := by
    rw [StableHlo.held_sub_split (Ix := HIx 1) (Name := ℕ) (U := UU) (Lvl := ℕ) (d.tc : Thread nD τ) callRefs_sub (W4 m d), held_call, rest_call]
  have e5 : iprop((tLoc 0 ↦{fullShare} (tbl m)) ∗ (cLoc 0 ↦{fullShare} (ixl m)) ∗ (oLoc 0 ↦{fullShare} (gathered (tbl m) (ixl m))))
      ⊢ (iprop((tLoc 0 ↦{fullShare} (W4 m 0 (Proc.devRef .tc main_v10))) ∗ (cLoc 0 ↦{fullShare} (W4 m 0 (Proc.devRef .tc main_c))) ∗ (oLoc 0 ↦{fullShare} (W4 m 0 (Proc.devRef .tc main_v11)))) : sProp 𝕄) := by
    rw [W4_out, W4_off m 0 main_v10 (by decide), W4_off m 0 main_c (by decide)]
    exact Entails.rfl
  have e2 := Pipeline.unscopedBufs_held (Ix := HIx 1) (Name := ℕ) (U := UU) (Lvl := ℕ) d (W2 m d)
  have hpre : iprop(unscopedBufs d (fun b => W1 m d b) ∗ ∃ W, ⌜(K (F := F)).WBelow (T d) W 0⌝ ∗ owes (d : Thread nD τ) ((K (F := F)).Otc d 0) W)
      ⊢ ((region (fun c b => W1 m c b) (fun c b => W2 m c b) (W2_table m) (W2_off m)).pre d : sProp 𝕄) := Entails.of_eq rfl
  have hpost : ((region (fun c b => W1 m c b) (fun c b => W2 m c b) (W2_table m) (W2_off m)).post d : sProp 𝕄)
      ⊢ iprop(unscopedBufs d (fun b => W2 m d b) ∗ ∃ W, ⌜(K (F := F)).WBelow (T d) W 0⌝ ∗ owes (d : Thread nD τ) ((K (F := F)).Otc d 0) W) := Entails.of_eq rfl
  have e6 : (held ((0 : Dev nD).tc : Thread nD τ) callRefs (W3 m 0) : sProp 𝕄) ⊢ bigSep Finset.univ fun c : Fin ((K (F := F)).nCore 0) => (P (tbl m) (ixl m)).st 0 0 c :=
    (Entails.of_eq (held_call 0 (W3 m 0))).trans (start_intro (tbl m) (ixl m) 0 (W3 m 0 main_v11))
  generalize hZ : (K (F := F)).tcSt EH d 1 = Z
  obtain rfl : d = 0 := Subsingleton.elim _ _
  have e7 : ((K (F := F)).tcSt EH 0 ((0 : Fin 1).val + 1) : sProp 𝕄) ⊢ Z := Entails.of_eq hZ
  iintro ⟨#Hctx, Hst, ⟨Hb, Hheld, Hts, -⟩, Hcg, Htk⟩
  ihave Hheld := (Entails.of_eq e0) $$ Hheld
  iapply (StableHlo.wp_seq 𝒱 none Set.univ 0 (Pipeline.ucRefs τ sig) _ opsA opsA_in opsA_det (launchContents m 0)) $$ [Hb Hheld]
  · isplitl [Hb] <;> iassumption
  iintro ⟨Hb, Hheld⟩
  -- the table's kernel
  rw [wp_bind]
  iapply ((K (F := F)).wp_liftProg D 𝒱 (T 0) Set.univ none (Prog.lift (.customCall (Pipeline.entry 0) ())) _)
  unfold SparseCore.Cfg.tcSt
  icases Hst with ⟨⟨%W, %hW, HO⟩, Hat⟩
  ihave Hlev := (SparseCore.Cfg.ctx_levAts κ) $$ Hctx
  iapply (Pipeline.RegionSeg.wp (pcfgs (F := F)) noTab (tdats (fun c b => W1 m c b)) none cellOf_inj EP defs₀ 𝒱₀ (K (F := F)).L (K (F := F)).lev
    (region (fun c b => W1 m c b) (fun c b => W2 m c b) (W2_table m) (W2_off m)) 0 none (by simp) .ret _)
  isplitr [Hb Hheld HO Hlev Hcg Htk]
  rotate_left
  · isplitl [Hb]; · iexact Hb
    isplitl [Hheld HO]
    · iapply hpre
      isplitl [Hheld]
      · iapply e1 $$ Hheld
      · iexists W; isplitr
        · ipureintro; exact hW
        · iexact HO
    isplitl [Hlev]; · iexact Hlev
    isplitl [Hcg]; · iexact Hcg
    iexact Htk
  iintro ⟨Hb, Hpost⟩
  ihave Hpost := hpost $$ Hpost
  icases Hpost with ⟨Hheld, ⟨%W', %hW', HO⟩⟩
  ihave Hheld := (Entails.of_eq e2) $$ Hheld
  rw [wp_ret]
  imodintro
  iapply (StableHlo.wp_seq 𝒱 none Set.univ 0 (Pipeline.ucRefs τ sig) _ opsB opsB_in opsB_det (W2 m 0)) $$ [Hb Hheld]
  · isplitl [Hb] <;> iassumption
  iintro ⟨Hb, Hheld⟩
  -- the SparseCore call
  rw [wp_bind]
  ihave Hheld := e3 $$ Hheld
  icases Hheld with ⟨Hcall, Hrest⟩
  iapply ((K (F := F)).wp_run D 𝒱 (EH := EH) (P := P (tbl m) (ixl m)) κ 0 0) $$ [HO Hat Hcall Hrest Hb Hts]
  isplitr; · iexact Hctx
  isplitl [HO Hat]
  · unfold SparseCore.Cfg.tcSt
    isplitl [HO]
    · iexists W'; isplitr
      · ipureintro; exact hW'
      · iexact HO
    · iexact Hat
  isplitl [Hcall]
  · iapply e6 $$ Hcall
  iintro ⟨Hst, Hdn⟩
  ihave Hcall := (done_elim (tbl m) (ixl m) 0) $$ Hdn
  ihave Hcall := e5 $$ Hcall
  ihave Hheld := e4 $$ [Hcall Hrest]
  · isplitl [Hcall] <;> iassumption
  -- the last operations
  iapply (StableHlo.wp_seq 𝒱 none Set.univ 0 (Pipeline.ucRefs τ sig) _ opsC opsC_in opsC_det (W4 m 0)) $$ [Hb Hheld]
  · isplitl [Hb] <;> iassumption
  iintro ⟨Hb, Hheld⟩
  rw [wp_pure]
  imodintro
  isplitl [Hst]; · iapply e7 $$ Hst
  unfold FIN W5
  isplitl [Hheld]; · iexact Hheld
  isplitl [Hb] <;> iassumption

def fq (d : Dev nD) (s' : Phys nD τ sig (Elt F)) : Prop := ∀ b ∈ Pipeline.ucRefs τ sig, s'.mem.mem (d, b) = W5 m d b

theorem hfin (d : Dev nD) (s' : Phys nD τ sig (Elt F)) : iprop(FIN m d ∗ SI s') ⊢ (⌜fq m d s'⌝ : sProp 𝕄) := by
  unfold FIN held fq
  iintro ⟨H, HSI⟩
  ihave %h := (SI_pointsTo_bufs_agree (qs := fun _ => fullShare) (Pipeline.ucRefs τ sig)) $$ [HSI H]
  · isplitl [HSI]; · iexact HSI
    iexact H
  ipureintro
  exact h

/-- The program's arguments, all unscoped, keep their contents through every step. -/
def args : List (Ref sig .tc) := [main_arg0, main_arg1, main_arg2, main_arg3, main_arg4, main_arg5, main_arg6, main_arg7, main_arg8, main_arg9, main_arg10]

theorem W5_args (d : Dev nD) : ∀ b ∈ args, W5 m d b = m (d, Proc.devRef .tc b) := by
  intro b hb
  have h9 : ∀ b ∈ args, b ≠ main_v9 ∧ b ≠ main_v10 ∧ b ≠ main_v11 := by decide
  have hC : ∀ b ∈ args, W5 m d b = W4 m d b := by
    simp only [args, List.forall_mem_cons, List.not_mem_nil, false_imp_iff, implies_true, and_true]
    unfold W5 opsC
    refine ⟨?_, ?_, ?_, ?_, ?_, ?_, ?_, ?_, ?_, ?_, ?_⟩ <;> after_results_simp
  have hA : ∀ b ∈ args, W1 m d b = m (d, Proc.devRef .tc b) := by
    simp only [args, List.forall_mem_cons, List.not_mem_nil, false_imp_iff, implies_true, and_true]
    unfold W1 opsA
    refine ⟨?_, ?_, ?_, ?_, ?_, ?_, ?_, ?_, ?_, ?_, ?_⟩ <;> after_results_simp
  obtain ⟨n9, n10, n11⟩ := h9 b hb
  exact (hC b hb).trans ((W4_off m d b n11).trans ((W3_off m d b n10).trans ((W2_off m d b n9).trans (hA b hb))))

theorem args_uc : ∀ b ∈ args, Proc.devRef .tc b ∈ Pipeline.ucRefs τ sig := by
  intro b hb
  have h : ∀ b ∈ args, ¬ (Proc.devRef (τ := τ) .tc b).isScoped := by decide
  exact Finset.mem_filter.mpr ⟨StableHlo.devRef_mem_tcRefs _, by simpa using h b hb⟩

/-- What a run ends with: the result `W5` says, every argument as it was, every counter zero. -/
def QC : PUnit × MemSt nD τ sig (Elt F) → Prop := fun r =>
  (∀ c : Dev nD, r.2.mem (c, Proc.devRef .tc main_v15) = W5 m c main_v15 ∧ ∀ b ∈ args, r.2.mem (c, Proc.devRef .tc b) = m (c, Proc.devRef .tc b)) ∧ r.2.sem = fun _ => 0

/-- The program runs to its end and ends with `QC`, where every word of the index list is below 1280. -/
theorem run_main [∀ e, Nonempty (Elt F e)] (hl : ∀ i : Fin 32768, (lit0 i).toNat < 1280) :
    θ_run (defs (F := F)) (threads (F := F)) ⟨m, fun _ => 0, ρ⟩ (QC m) :=
  SparseCore.Cfg.θ_run_sc_quiescent (K := K (F := F)) (D := D (F := F)) (𝒱 := 𝒱) (EH := EH) (P := P (tbl m) (ixl m)) (A := ∅) facts v₀
    (fun q hq => match q with | 0 => nomatch hq)
    (fun q _ => match q with | 0 => tileObl (tbl m) (ixl m) (ixl_lt m hl) facts)
    (fun q _ => match q with | 0 => SparseCore.Cfg.VecSplit.of_plain (vecSplit (tbl m) (ixl m)))
    m ρ main (G (F := F)) (FIN m) (u₀ (F := F)) (sep_elim_left.trans (hu₀ (tbl m) (ixl m))) (hmain m ρ) (fq m) (hfin m) (QC m)
    (fun _ h hz => ⟨fun c => ⟨h c _ (Finset.mem_filter.mpr ⟨StableHlo.devRef_mem_tcRefs _, by decide⟩),
      fun b hb => (h c _ (args_uc b hb)).trans (W5_args m c b hb)⟩, hz⟩)

end Cert.Proof.KernelIdeal

end
-- ==== Proof.List0.lean ====
/-
  The index list against the reference's column list 4: place `500·b + 100·0 + j` of the list is `1024` more than entry
  `(b, j)` of the reference's list, which is below 256.
-/
module

public import proofs.«01_k».proof.Defs
public import Mathlib.Tactic.IntervalCases

@[expose] public section

set_option maxRecDepth 100000

noncomputable section

namespace Cert.Proof.Lists

/-- Entry `i` of the reference's list and the list's place for it. -/
def Same0 (i : ℕ) : Prop :=
  (Cert.KernelIdeal.lit0t (500 * (i / 100) + 0 + i % 100)).toNat = 1024 + (Cert.ReferenceIdeal.lit4t i).toNat
    ∧ (Cert.ReferenceIdeal.lit4t i).toNat < 256

instance (i : ℕ) : Decidable (Same0 i) := by unfold Same0; infer_instance

theorem same0_0 : ∀ r : Fin 800, Same0 (0 + r.val) := by decide +kernel
theorem same0_1 : ∀ r : Fin 800, Same0 (800 + r.val) := by decide +kernel
theorem same0_2 : ∀ r : Fin 800, Same0 (1600 + r.val) := by decide +kernel
theorem same0_3 : ∀ r : Fin 800, Same0 (2400 + r.val) := by decide +kernel
theorem same0_4 : ∀ r : Fin 800, Same0 (3200 + r.val) := by decide +kernel
theorem same0_5 : ∀ r : Fin 800, Same0 (4000 + r.val) := by decide +kernel
theorem same0_6 : ∀ r : Fin 800, Same0 (4800 + r.val) := by decide +kernel
theorem same0_7 : ∀ r : Fin 800, Same0 (5600 + r.val) := by decide +kernel

/-- Every entry of the reference's column list 4 is below 256, and the index list holds it 1024 higher. -/
theorem same0 (i : ℕ) (h : i < 6400) : Same0 i := by
  have hq : i = 800 * (i / 800) + i % 800 := by omega
  have hr : i % 800 < 800 := by omega
  have hk : i / 800 < 8 := by omega
  generalize i / 800 = k at hq hk
  generalize i % 800 = r at hq hr
  subst hq
  interval_cases k
  · rw [show 800 * 0 + r = 0 + r by omega]; exact same0_0 ⟨r, hr⟩
  · rw [show 800 * 1 + r = 800 + r by omega]; exact same0_1 ⟨r, hr⟩
  · rw [show 800 * 2 + r = 1600 + r by omega]; exact same0_2 ⟨r, hr⟩
  · rw [show 800 * 3 + r = 2400 + r by omega]; exact same0_3 ⟨r, hr⟩
  · rw [show 800 * 4 + r = 3200 + r by omega]; exact same0_4 ⟨r, hr⟩
  · rw [show 800 * 5 + r = 4000 + r by omega]; exact same0_5 ⟨r, hr⟩
  · rw [show 800 * 6 + r = 4800 + r by omega]; exact same0_6 ⟨r, hr⟩
  · rw [show 800 * 7 + r = 5600 + r by omega]; exact same0_7 ⟨r, hr⟩

end Cert.Proof.Lists

end
-- ==== Proof.List1.lean ====
/-
  The index list against the reference's column list 3: place `500·b + 100·1 + j` of the list is `768` more than entry
  `(b, j)` of the reference's list, which is below 256.
-/
module

public import proofs.«01_k».proof.Defs
public import Mathlib.Tactic.IntervalCases

@[expose] public section

set_option maxRecDepth 100000

noncomputable section

namespace Cert.Proof.Lists

/-- Entry `i` of the reference's list and the list's place for it. -/
def Same1 (i : ℕ) : Prop :=
  (Cert.KernelIdeal.lit0t (500 * (i / 100) + 100 + i % 100)).toNat = 768 + (Cert.ReferenceIdeal.lit3t i).toNat
    ∧ (Cert.ReferenceIdeal.lit3t i).toNat < 256

instance (i : ℕ) : Decidable (Same1 i) := by unfold Same1; infer_instance

theorem same1_0 : ∀ r : Fin 800, Same1 (0 + r.val) := by decide +kernel
theorem same1_1 : ∀ r : Fin 800, Same1 (800 + r.val) := by decide +kernel
theorem same1_2 : ∀ r : Fin 800, Same1 (1600 + r.val) := by decide +kernel
theorem same1_3 : ∀ r : Fin 800, Same1 (2400 + r.val) := by decide +kernel
theorem same1_4 : ∀ r : Fin 800, Same1 (3200 + r.val) := by decide +kernel
theorem same1_5 : ∀ r : Fin 800, Same1 (4000 + r.val) := by decide +kernel
theorem same1_6 : ∀ r : Fin 800, Same1 (4800 + r.val) := by decide +kernel
theorem same1_7 : ∀ r : Fin 800, Same1 (5600 + r.val) := by decide +kernel

/-- Every entry of the reference's column list 3 is below 256, and the index list holds it 768 higher. -/
theorem same1 (i : ℕ) (h : i < 6400) : Same1 i := by
  have hq : i = 800 * (i / 800) + i % 800 := by omega
  have hr : i % 800 < 800 := by omega
  have hk : i / 800 < 8 := by omega
  generalize i / 800 = k at hq hk
  generalize i % 800 = r at hq hr
  subst hq
  interval_cases k
  · rw [show 800 * 0 + r = 0 + r by omega]; exact same1_0 ⟨r, hr⟩
  · rw [show 800 * 1 + r = 800 + r by omega]; exact same1_1 ⟨r, hr⟩
  · rw [show 800 * 2 + r = 1600 + r by omega]; exact same1_2 ⟨r, hr⟩
  · rw [show 800 * 3 + r = 2400 + r by omega]; exact same1_3 ⟨r, hr⟩
  · rw [show 800 * 4 + r = 3200 + r by omega]; exact same1_4 ⟨r, hr⟩
  · rw [show 800 * 5 + r = 4000 + r by omega]; exact same1_5 ⟨r, hr⟩
  · rw [show 800 * 6 + r = 4800 + r by omega]; exact same1_6 ⟨r, hr⟩
  · rw [show 800 * 7 + r = 5600 + r by omega]; exact same1_7 ⟨r, hr⟩

end Cert.Proof.Lists

end
-- ==== Proof.List2.lean ====
/-
  The index list against the reference's column list 2: place `500·b + 100·2 + j` of the list is `512` more than entry
  `(b, j)` of the reference's list, which is below 256.
-/
module

public import proofs.«01_k».proof.Defs
public import Mathlib.Tactic.IntervalCases

@[expose] public section

set_option maxRecDepth 100000

noncomputable section

namespace Cert.Proof.Lists

/-- Entry `i` of the reference's list and the list's place for it. -/
def Same2 (i : ℕ) : Prop :=
  (Cert.KernelIdeal.lit0t (500 * (i / 100) + 200 + i % 100)).toNat = 512 + (Cert.ReferenceIdeal.lit2t i).toNat
    ∧ (Cert.ReferenceIdeal.lit2t i).toNat < 256

instance (i : ℕ) : Decidable (Same2 i) := by unfold Same2; infer_instance

theorem same2_0 : ∀ r : Fin 800, Same2 (0 + r.val) := by decide +kernel
theorem same2_1 : ∀ r : Fin 800, Same2 (800 + r.val) := by decide +kernel
theorem same2_2 : ∀ r : Fin 800, Same2 (1600 + r.val) := by decide +kernel
theorem same2_3 : ∀ r : Fin 800, Same2 (2400 + r.val) := by decide +kernel
theorem same2_4 : ∀ r : Fin 800, Same2 (3200 + r.val) := by decide +kernel
theorem same2_5 : ∀ r : Fin 800, Same2 (4000 + r.val) := by decide +kernel
theorem same2_6 : ∀ r : Fin 800, Same2 (4800 + r.val) := by decide +kernel
theorem same2_7 : ∀ r : Fin 800, Same2 (5600 + r.val) := by decide +kernel

/-- Every entry of the reference's column list 2 is below 256, and the index list holds it 512 higher. -/
theorem same2 (i : ℕ) (h : i < 6400) : Same2 i := by
  have hq : i = 800 * (i / 800) + i % 800 := by omega
  have hr : i % 800 < 800 := by omega
  have hk : i / 800 < 8 := by omega
  generalize i / 800 = k at hq hk
  generalize i % 800 = r at hq hr
  subst hq
  interval_cases k
  · rw [show 800 * 0 + r = 0 + r by omega]; exact same2_0 ⟨r, hr⟩
  · rw [show 800 * 1 + r = 800 + r by omega]; exact same2_1 ⟨r, hr⟩
  · rw [show 800 * 2 + r = 1600 + r by omega]; exact same2_2 ⟨r, hr⟩
  · rw [show 800 * 3 + r = 2400 + r by omega]; exact same2_3 ⟨r, hr⟩
  · rw [show 800 * 4 + r = 3200 + r by omega]; exact same2_4 ⟨r, hr⟩
  · rw [show 800 * 5 + r = 4000 + r by omega]; exact same2_5 ⟨r, hr⟩
  · rw [show 800 * 6 + r = 4800 + r by omega]; exact same2_6 ⟨r, hr⟩
  · rw [show 800 * 7 + r = 5600 + r by omega]; exact same2_7 ⟨r, hr⟩

end Cert.Proof.Lists

end
-- ==== Proof.List3.lean ====
/-
  The index list against the reference's column list 1: place `500·b + 100·3 + j` of the list is `256` more than entry
  `(b, j)` of the reference's list, which is below 256.
-/
module

public import proofs.«01_k».proof.Defs
public import Mathlib.Tactic.IntervalCases

@[expose] public section

set_option maxRecDepth 100000

noncomputable section

namespace Cert.Proof.Lists

/-- Entry `i` of the reference's list and the list's place for it. -/
def Same3 (i : ℕ) : Prop :=
  (Cert.KernelIdeal.lit0t (500 * (i / 100) + 300 + i % 100)).toNat = 256 + (Cert.ReferenceIdeal.lit1t i).toNat
    ∧ (Cert.ReferenceIdeal.lit1t i).toNat < 256

instance (i : ℕ) : Decidable (Same3 i) := by unfold Same3; infer_instance

theorem same3_0 : ∀ r : Fin 800, Same3 (0 + r.val) := by decide +kernel
theorem same3_1 : ∀ r : Fin 800, Same3 (800 + r.val) := by decide +kernel
theorem same3_2 : ∀ r : Fin 800, Same3 (1600 + r.val) := by decide +kernel
theorem same3_3 : ∀ r : Fin 800, Same3 (2400 + r.val) := by decide +kernel
theorem same3_4 : ∀ r : Fin 800, Same3 (3200 + r.val) := by decide +kernel
theorem same3_5 : ∀ r : Fin 800, Same3 (4000 + r.val) := by decide +kernel
theorem same3_6 : ∀ r : Fin 800, Same3 (4800 + r.val) := by decide +kernel
theorem same3_7 : ∀ r : Fin 800, Same3 (5600 + r.val) := by decide +kernel

/-- Every entry of the reference's column list 1 is below 256, and the index list holds it 256 higher. -/
theorem same3 (i : ℕ) (h : i < 6400) : Same3 i := by
  have hq : i = 800 * (i / 800) + i % 800 := by omega
  have hr : i % 800 < 800 := by omega
  have hk : i / 800 < 8 := by omega
  generalize i / 800 = k at hq hk
  generalize i % 800 = r at hq hr
  subst hq
  interval_cases k
  · rw [show 800 * 0 + r = 0 + r by omega]; exact same3_0 ⟨r, hr⟩
  · rw [show 800 * 1 + r = 800 + r by omega]; exact same3_1 ⟨r, hr⟩
  · rw [show 800 * 2 + r = 1600 + r by omega]; exact same3_2 ⟨r, hr⟩
  · rw [show 800 * 3 + r = 2400 + r by omega]; exact same3_3 ⟨r, hr⟩
  · rw [show 800 * 4 + r = 3200 + r by omega]; exact same3_4 ⟨r, hr⟩
  · rw [show 800 * 5 + r = 4000 + r by omega]; exact same3_5 ⟨r, hr⟩
  · rw [show 800 * 6 + r = 4800 + r by omega]; exact same3_6 ⟨r, hr⟩
  · rw [show 800 * 7 + r = 5600 + r by omega]; exact same3_7 ⟨r, hr⟩

end Cert.Proof.Lists

end
-- ==== Proof.List4.lean ====
/-
  The index list against the reference's column list 0: place `500·b + 100·4 + j` of the list is `0` more than entry
  `(b, j)` of the reference's list, which is below 256.
-/
module

public import proofs.«01_k».proof.Defs
public import Mathlib.Tactic.IntervalCases

@[expose] public section

set_option maxRecDepth 100000

noncomputable section

namespace Cert.Proof.Lists

/-- Entry `i` of the reference's list and the list's place for it. -/
def Same4 (i : ℕ) : Prop :=
  (Cert.KernelIdeal.lit0t (500 * (i / 100) + 400 + i % 100)).toNat = 0 + (Cert.ReferenceIdeal.lit0t i).toNat
    ∧ (Cert.ReferenceIdeal.lit0t i).toNat < 256

instance (i : ℕ) : Decidable (Same4 i) := by unfold Same4; infer_instance

theorem same4_0 : ∀ r : Fin 800, Same4 (0 + r.val) := by decide +kernel
theorem same4_1 : ∀ r : Fin 800, Same4 (800 + r.val) := by decide +kernel
theorem same4_2 : ∀ r : Fin 800, Same4 (1600 + r.val) := by decide +kernel
theorem same4_3 : ∀ r : Fin 800, Same4 (2400 + r.val) := by decide +kernel
theorem same4_4 : ∀ r : Fin 800, Same4 (3200 + r.val) := by decide +kernel
theorem same4_5 : ∀ r : Fin 800, Same4 (4000 + r.val) := by decide +kernel
theorem same4_6 : ∀ r : Fin 800, Same4 (4800 + r.val) := by decide +kernel
theorem same4_7 : ∀ r : Fin 800, Same4 (5600 + r.val) := by decide +kernel

/-- The places past the 32000 listed ones hold zero. -/
theorem tail : ∀ r : Fin 768, Cert.KernelIdeal.lit0t (32000 + r.val) = 0#32 := by decide +kernel

/-- Every entry of the reference's column list 0 is below 256, and the index list holds it 0 higher. -/
theorem same4 (i : ℕ) (h : i < 6400) : Same4 i := by
  have hq : i = 800 * (i / 800) + i % 800 := by omega
  have hr : i % 800 < 800 := by omega
  have hk : i / 800 < 8 := by omega
  generalize i / 800 = k at hq hk
  generalize i % 800 = r at hq hr
  subst hq
  interval_cases k
  · rw [show 800 * 0 + r = 0 + r by omega]; exact same4_0 ⟨r, hr⟩
  · rw [show 800 * 1 + r = 800 + r by omega]; exact same4_1 ⟨r, hr⟩
  · rw [show 800 * 2 + r = 1600 + r by omega]; exact same4_2 ⟨r, hr⟩
  · rw [show 800 * 3 + r = 2400 + r by omega]; exact same4_3 ⟨r, hr⟩
  · rw [show 800 * 4 + r = 3200 + r by omega]; exact same4_4 ⟨r, hr⟩
  · rw [show 800 * 5 + r = 4000 + r by omega]; exact same4_5 ⟨r, hr⟩
  · rw [show 800 * 6 + r = 4800 + r by omega]; exact same4_6 ⟨r, hr⟩
  · rw [show 800 * 7 + r = 5600 + r by omega]; exact same4_7 ⟨r, hr⟩

end Cert.Proof.Lists

end
-- ==== Proof.Lists.lean ====
/-
  The index list as the call reads it: every word is below 1280, in the kernel as in its idealization.
-/
module

public import proofs.«01_k».proof.Proof.List0
public import proofs.«01_k».proof.Proof.List1
public import proofs.«01_k».proof.Proof.List2
public import proofs.«01_k».proof.Proof.List3
public import proofs.«01_k».proof.Proof.List4

@[expose] public section

set_option maxRecDepth 100000

noncomputable section

namespace Cert.Proof.Lists

theorem list_lt (i : ℕ) (h : i < 32768) : (Cert.KernelIdeal.lit0t i).toNat < 1280 := by
  by_cases h0 : i < 32000
  · have hb : i = 500 * (i / 500) + i % 500 := by omega
    have hm : i % 500 = 100 * (i % 500 / 100) + i % 500 % 100 := by omega
    have hb' : i / 500 < 64 := by omega
    have hm' : i % 500 / 100 < 5 := by omega
    have hj' : i % 500 % 100 < 100 := by omega
    generalize i % 500 % 100 = j at *
    generalize i % 500 / 100 = m at *
    generalize i % 500 = x at *
    generalize i / 500 = b at *
    subst hm; subst hb
    have e1 : (100 * b + j) / 100 = b := by omega
    have e2 : (100 * b + j) % 100 = j := by omega
    interval_cases m
    · have h1 := same0 (100 * b + j) (by omega)
      unfold Same0 at h1; rw [e1, e2, show 500 * b + 0 + j = 500 * b + (100 * 0 + j) by omega] at h1
      omega
    · have h1 := same1 (100 * b + j) (by omega)
      unfold Same1 at h1; rw [e1, e2, show 500 * b + 100 + j = 500 * b + (100 * 1 + j) by omega] at h1
      omega
    · have h1 := same2 (100 * b + j) (by omega)
      unfold Same2 at h1; rw [e1, e2, show 500 * b + 200 + j = 500 * b + (100 * 2 + j) by omega] at h1
      omega
    · have h1 := same3 (100 * b + j) (by omega)
      unfold Same3 at h1; rw [e1, e2, show 500 * b + 300 + j = 500 * b + (100 * 3 + j) by omega] at h1
      omega
    · have h1 := same4 (100 * b + j) (by omega)
      unfold Same4 at h1; rw [e1, e2, show 500 * b + 400 + j = 500 * b + (100 * 4 + j) by omega] at h1
      omega
  · obtain ⟨r, rfl⟩ : ∃ r, i = 32000 + r := ⟨i - 32000, by omega⟩
    rw [tail ⟨r, by omega⟩]; decide

/-- The kernel's index list is its idealization's. -/
theorem list_same : Cert.Kernel.lit0t = Cert.KernelIdeal.lit0t := by with_unfolding_all rfl

/-- Every word of the idealized kernel's index list is below 1280. -/
theorem ideal_lt (i : Fin 32768) : (Cert.KernelIdeal.lit0 i).toNat < 1280 := list_lt i.val i.isLt

/-- Every word of the kernel's index list is below 1280. -/
theorem kernel_lt (i : Fin 32768) : (Cert.Kernel.lit0 i).toNat < 1280 := by
  show (Cert.Kernel.lit0t i.val).toNat < 1280
  rw [list_same]; exact list_lt i.val i.isLt

end Cert.Proof.Lists

end
-- ==== Proof.Frames.lean ====
/-
  The claims that ask no value: the three frames, and the named constant.
-/
module

public import proofs.«01_k».proof.Defs
public import proofs.«01_k».proof.Proof.IdealMain
public import proofs.«01_k».proof.Proof.KernelMain
public import proofs.«01_k».proof.Proof.Lists
public import proofs.«01_k».proof.Proof.Gen.Pre_finite
public import proofs.«01_k».proof.Proof.Gen.ReferenceIdeal.Run
public import Idealize.ShloMosaic.Lib.Quiescent

@[expose] public section

noncomputable section

namespace Cert.Proof.Frames

open Idealize.ShloMosaic Idealize.SL.Sem
open Idealize.ShloMosaic.TcCoe

/-- The kernel as printed terminates, its arguments end as they were, every counter ends zero. -/
theorem kernel : Cert.quiescent_Kernel := fun m ρ _ =>
  (θ_run Cert.Kernel.defs _ _).mono (fun r h => ⟨fun c => by
      have a := (h.1 c).2
      simp only [Cert.Proof.Kernel.args, List.forall_mem_cons, List.not_mem_nil, false_imp_iff, implies_true, and_true] at a
      exact a, h.2⟩)
    (Cert.Proof.Kernel.run_main (F := Bits) m ρ Cert.Proof.Lists.kernel_lt)

/-- So does the idealized kernel, -/
theorem ideal : Cert.quiescent_KernelIdeal := fun m ρ _ =>
  (θ_run Cert.KernelIdeal.defs _ _).mono (fun r h => ⟨fun c => by
      have a := (h.1 c).2
      simp only [Cert.Proof.KernelIdeal.args, List.forall_mem_cons, List.not_mem_nil, false_imp_iff, implies_true, and_true] at a
      exact a, h.2⟩)
    (Cert.Proof.KernelIdeal.run_main (F := Ideal) m ρ Cert.Proof.Lists.ideal_lt)

theorem ideal_finite : Cert.quiescent_KernelIdeal_pre_finite := fun m ρ _ => ideal m ρ trivial

/-- and the idealized reference. -/
theorem reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem reference_finite : Cert.quiescent_ReferenceIdeal_pre_finite := fun m ρ _ => reference m ρ trivial

/-- The constant the kernel divides by 625 with is the float32 nearest 1/625, its name's value. -/
theorem preserves : Cert.preserves_Kernel_KernelIdeal :=
  IdealRules.named_const.statement Cert.KernelIdeal.κ "inv625" .f32 0x3AD1B717#32 ((625⁻¹ : ℝ) : EReal) rfl

end Cert.Proof.Frames

end
-- ==== Proof.PayTable.lean ====
/-
  The kernel's payloads over the extended reals, read at an index: the means, the line of means, the
  folded convolution, the hidden layer, the logit and the table's rows.
-/
module

public import proofs.«01_k».proof.Proof.Gen.KernelIdeal.Skeleton
public import Idealize.ShloMosaic.Lib.Pointwise
public import Idealize.ShloMosaic.Lib.Tactic.CleanTypes

@[expose] public section

set_option maxRecDepth 16384

noncomputable section

namespace Cert.Proof.PayTable

open Cert.KernelIdeal Cert.KernelIdeal.Gen
open Idealize.ShloMosaic Idealize.ShloMosaic.TcCoe Idealize.SL.Sem

/-- The mean of channel `c` of image `k`: the sum of its 625 pixels times 1/625. -/
def mean (x : S5x256x625.Idx → EReal) (k : Fin 5) (c : Fin 256) : EReal :=
  (∑ n : Fin 625, x (ix3 k c n)) * ((625⁻¹ : ℝ) : EReal)

/-- The means of image `k` with three zeros on either side. -/
def line (x : S5x256x625.Idx → EReal) (k : Fin 5) (c : ℕ) : EReal :=
  if h : 3 ≤ c ∧ c < 259 then mean x k ⟨c - 3, by omega⟩ else 0

/-- The constant the kernel multiplies by is 1/625. -/
theorem named_at : (Named.named (F := Ideal) (φ := .f32) κ "inv625" 0x3AD1B717#32 : EReal) = ((625⁻¹ : ℝ) : EReal) :=
  IdealRules.named_const.ideal_named_scalar _ _ _ _ rfl

theorem pay3_at (x : FVec Ideal S5x256x625 .f32) (k : Fin 5) (c : Fin 256) : k0_pay3 (F := Ideal) x (ix2 k c) = mean x k c := by
  unfold k0_pay3 k0_pay2 mean
  pointwise [named_at]

theorem pay4_at (x : FVec Ideal S5x256x625 .f32) (k : Fin 5) (c : Fin 262) : k0_pay4 (F := Ideal) x (ix2 k c) = line x k c.val := by
  unfold k0_pay4
  pointwise [pay3_at]
  unfold line
  by_cases h0 : c.val < 3
  · rw [dif_pos h0, dif_neg (by omega)]
  · by_cases h1 : c.val - 3 < 256
    · rw [dif_neg h0, dif_pos h1, dif_pos (by omega)]
    · rw [dif_neg h0, dif_neg h1, dif_neg (by omega)]

/-- What the attention reads: the mean, the three biases, and seven products of the means with the folded weights. -/
def folded (x : S5x256x625.Idx → EReal) (w3 : Fin 3 → EReal) (w5 : Fin 5 → EReal) (w7 : Fin 7 → EReal) (b3 b5 b7 : EReal)
    (k : Fin 5) (c : Fin 256) : EReal :=
  mean x k c + (b3 + b5 + b7) + w7 0 * line x k c.val + (w7 1 + w5 0) * line x k (c.val + 1)
    + (w7 2 + w5 1 + w3 0) * line x k (c.val + 2) + (w7 3 + w5 2 + w3 1) * line x k (c.val + 3)
    + (w7 4 + w5 3 + w3 2) * line x k (c.val + 4) + (w7 5 + w5 4) * line x k (c.val + 5) + w7 6 * line x k (c.val + 6)

/-- The hidden layer over a row of means `s`. -/
def hid (s : Fin 256 → EReal) (f1 : S16x256.Idx → EReal) (b1 : S1x16.Idx → EReal) (o : Fin 16) : EReal :=
  max ((∑ c : Fin 256, s c * f1 (ix2 o c)) + b1 (ix2 0 o)) 0

theorem pay6_at (x : FVec Ideal S5x256x625 .f32) (w3 : Fin 3 → EReal) (w5 : Fin 5 → EReal) (w7 : Fin 7 → EReal) (b3 b5 b7 : EReal)
    (f1 : FVec Ideal S16x256 .f32) (b1 : FVec Ideal S1x16 .f32) (k : Fin 5) (o : Fin 16) :
    k0_pay6 (F := Ideal) (k0_pay4 (F := Ideal) x)
      (k0_pay5 (F := Ideal) x b3 b5 b7 (w7 0) (w7 1) (w5 0) (w7 2) (w5 1) (w3 0))
      (w7 3) (w5 2) (w3 1) (w7 4) (w5 3) (w3 2) (w7 5) (w5 4) (w7 6) f1 b1 (ix2 k o)
      = hid (folded x w3 w5 w7 b3 b5 b7 k) f1 b1 o := by
  unfold k0_pay6 k0_pay5 hid folded
  pointwise [pay3_at, pay4_at]
  simp only [Nat.add_comm _ (Fin.val _)]

/-- The nine pixels of a patch, at their places in the flat image, then seven zeros. -/
def pixel (x : S5x256x625.Idx → EReal) (k : Fin 5) (c : Fin 256) (q : ℕ) : EReal :=
  if h : q < 9 then x (ix3 k c ⟨286 + 25 * (q / 3) + q % 3, by omega⟩) else 0

theorem pay1_at (x : FVec Ideal S5x256x625 .f32) (h : FVec Ideal S5x16 .f32) (f2 : FVec Ideal S256x16 .f32) (b2 : FVec Ideal S1x256 .f32)
    (k : Fin 5) (c : Fin 256) (q : Fin 16) :
    k0_pay1 (F := Ideal) (k0_pay2 (F := Ideal) x) h f2 b2 (ix3 k c q)
      = pixel x k c q * Ideal.logistic ((∑ o : Fin 16, h (ix2 k o) * f2 (ix2 c o)) + b2 (ix2 0 c)) := by
  unfold k0_pay1 k0_pay2 pixel
  pointwise
  fin_vals q with hq
  all_goals simp only [hq, Nat.reduceSub, Nat.reduceLT, Nat.reduceAdd, Nat.reduceMul, Nat.reduceDiv, Nat.reduceMod, ↓reduceDIte]

end Cert.Proof.PayTable
end
-- ==== Proof.KerBlk.lean ====
/-
  The blocks the table's kernel is fetched, and the loads and the store of its body, read at an index.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.IdealMain
public import proofs.«01_k».proof.Proof.PayTable
public import Idealize.ShloMosaic.Lib.Pipeline.ValueKit
public import Idealize.ShloMosaic.Lib.Pipeline.Frame
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.StableHlo (launchContents after held)

variable (V : (c : Dev nD) → (b : Ref sig .tc) → Buf (Elt Ideal) ((c : Thread nD τ).loc b))

/-- Window 0's block is its whole array. -/
theorem blk0_eq (c : Dev nD) : blk0 V c = V c main_v2 := by
  funext j
  unfold blk0
  blk_ext! [show win0_0.index t0_0 = ![0, 0] by decide]

/-- Window 1's block is its whole array. -/
theorem blk1_eq (c : Dev nD) : blk1 V c = V c main_v3 := by
  funext j
  unfold blk1
  blk_ext! [show win0_1.index t0_0 = ![0, 0] by decide]

/-- Window 2's block is its whole array. -/
theorem blk2_eq (c : Dev nD) : blk2 V c = V c main_v4 := by
  funext j
  unfold blk2
  blk_ext! [show win0_2.index t0_0 = ![0, 0] by decide]

/-- Window 3's block is its whole array. -/
theorem blk3_eq (c : Dev nD) : blk3 V c = V c main_arg2 := by
  funext j
  unfold blk3
  blk_ext! [show win0_3.index t0_0 = ![0] by decide]

/-- Window 4's block is its whole array. -/
theorem blk4_eq (c : Dev nD) : blk4 V c = V c main_arg4 := by
  funext j
  unfold blk4
  blk_ext! [show win0_4.index t0_0 = ![0] by decide]

/-- Window 5's block is its whole array. -/
theorem blk5_eq (c : Dev nD) : blk5 V c = V c main_arg6 := by
  funext j
  unfold blk5
  blk_ext! [show win0_5.index t0_0 = ![0] by decide]

/-- Window 6's block is its whole array. -/
theorem blk6_eq (c : Dev nD) : blk6 V c = V c main_v1 := by
  funext j
  unfold blk6
  blk_ext! [show win0_6.index t0_0 = ![0, 0, 0] by decide]

/-- Window 7's block is its whole array. -/
theorem blk7_eq (c : Dev nD) : blk7 V c = V c main_v5 := by
  funext j
  unfold blk7
  blk_ext! [show win0_7.index t0_0 = ![0, 0] by decide]

/-- Window 8's block is its whole array. -/
theorem blk8_eq (c : Dev nD) : blk8 V c = V c main_v7 := by
  funext j
  unfold blk8
  blk_ext! [show win0_8.index t0_0 = ![0, 0] by decide]

/-- Window 9's block is its whole array. -/
theorem blk9_eq (c : Dev nD) : blk9 V c = V c main_v6 := by
  funext j
  unfold blk9
  blk_ext! [show win0_9.index t0_0 = ![0, 0] by decide]

/-- Window 10's block is its whole array. -/
theorem blk10_eq (c : Dev nD) : blk10 V c = V c main_v8 := by
  funext j
  unfold blk10
  blk_ext! [show win0_10.index t0_0 = ![0, 0] by decide]

/-- One store of a whole buffer leaves it at what was stored. -/
theorem whole_write (f : Buf (Elt Ideal) ((View.whole cc0_stg11_0).loc ((0 : Dev nD) : Thread nD τ))) (p : S5x256x16.Idx → Elt Ideal .f32) (j : S5x256x16.Idx) :
    (View.whole cc0_stg11_0).writes (Elt Ideal) f [⟨Rect.unit ![0, 0, 0] ![5, 256, 16] inb_S5x256x16_S5x256x16_0_0_0, p⟩] j = p j := by
  refine View.read_writes_cons_hit (Val := Elt Ideal) (View.whole cc0_stg11_0) f (Rect.unit ![0, 0, 0] ![5, 256, 16] inb_S5x256x16_S5x256x16_0_0_0) p [] j j ?_
  funext a
  apply Fin.ext
  fin_cases a <;> simp

/-- A load of one number of the 7 x 7 weights: row 3, column 0. -/
theorem ld7_0 (X : S7x7.Idx → Elt Ideal .f32) (h : ∀ a, (![3, 0] : Fin 2 → ℕ) a + (![1, 1] : Fin 2 → ℕ) a ≤ S7x7.size a) (hp : 0 < (Rect.unit (s := S7x7) ![3, 0] ![1, 1] h).shape.numel) :
    View.ld X (Rect.unit ![3, 0] ![1, 1] h) (Shape.Idx.first hp) = X (ix2 3 0) := by
  pointwise

/-- A load of one number of the 7 x 7 weights: row 3, column 1. -/
theorem ld7_1 (X : S7x7.Idx → Elt Ideal .f32) (h : ∀ a, (![3, 1] : Fin 2 → ℕ) a + (![1, 1] : Fin 2 → ℕ) a ≤ S7x7.size a) (hp : 0 < (Rect.unit (s := S7x7) ![3, 1] ![1, 1] h).shape.numel) :
    View.ld X (Rect.unit ![3, 1] ![1, 1] h) (Shape.Idx.first hp) = X (ix2 3 1) := by
  pointwise

/-- A load of one number of the 7 x 7 weights: row 3, column 2. -/
theorem ld7_2 (X : S7x7.Idx → Elt Ideal .f32) (h : ∀ a, (![3, 2] : Fin 2 → ℕ) a + (![1, 1] : Fin 2 → ℕ) a ≤ S7x7.size a) (hp : 0 < (Rect.unit (s := S7x7) ![3, 2] ![1, 1] h).shape.numel) :
    View.ld X (Rect.unit ![3, 2] ![1, 1] h) (Shape.Idx.first hp) = X (ix2 3 2) := by
  pointwise

/-- A load of one number of the 7 x 7 weights: row 3, column 3. -/
theorem ld7_3 (X : S7x7.Idx → Elt Ideal .f32) (h : ∀ a, (![3, 3] : Fin 2 → ℕ) a + (![1, 1] : Fin 2 → ℕ) a ≤ S7x7.size a) (hp : 0 < (Rect.unit (s := S7x7) ![3, 3] ![1, 1] h).shape.numel) :
    View.ld X (Rect.unit ![3, 3] ![1, 1] h) (Shape.Idx.first hp) = X (ix2 3 3) := by
  pointwise

/-- A load of one number of the 7 x 7 weights: row 3, column 4. -/
theorem ld7_4 (X : S7x7.Idx → Elt Ideal .f32) (h : ∀ a, (![3, 4] : Fin 2 → ℕ) a + (![1, 1] : Fin 2 → ℕ) a ≤ S7x7.size a) (hp : 0 < (Rect.unit (s := S7x7) ![3, 4] ![1, 1] h).shape.numel) :
    View.ld X (Rect.unit ![3, 4] ![1, 1] h) (Shape.Idx.first hp) = X (ix2 3 4) := by
  pointwise

/-- A load of one number of the 7 x 7 weights: row 3, column 5. -/
theorem ld7_5 (X : S7x7.Idx → Elt Ideal .f32) (h : ∀ a, (![3, 5] : Fin 2 → ℕ) a + (![1, 1] : Fin 2 → ℕ) a ≤ S7x7.size a) (hp : 0 < (Rect.unit (s := S7x7) ![3, 5] ![1, 1] h).shape.numel) :
    View.ld X (Rect.unit ![3, 5] ![1, 1] h) (Shape.Idx.first hp) = X (ix2 3 5) := by
  pointwise

/-- A load of one number of the 7 x 7 weights: row 3, column 6. -/
theorem ld7_6 (X : S7x7.Idx → Elt Ideal .f32) (h : ∀ a, (![3, 6] : Fin 2 → ℕ) a + (![1, 1] : Fin 2 → ℕ) a ≤ S7x7.size a) (hp : 0 < (Rect.unit (s := S7x7) ![3, 6] ![1, 1] h).shape.numel) :
    View.ld X (Rect.unit ![3, 6] ![1, 1] h) (Shape.Idx.first hp) = X (ix2 3 6) := by
  pointwise

/-- A load of one number of the 5 x 5 weights: row 2, column 0. -/
theorem ld5_0 (X : S5x5.Idx → Elt Ideal .f32) (h : ∀ a, (![2, 0] : Fin 2 → ℕ) a + (![1, 1] : Fin 2 → ℕ) a ≤ S5x5.size a) (hp : 0 < (Rect.unit (s := S5x5) ![2, 0] ![1, 1] h).shape.numel) :
    View.ld X (Rect.unit ![2, 0] ![1, 1] h) (Shape.Idx.first hp) = X (ix2 2 0) := by
  pointwise

/-- A load of one number of the 5 x 5 weights: row 2, column 1. -/
theorem ld5_1 (X : S5x5.Idx → Elt Ideal .f32) (h : ∀ a, (![2, 1] : Fin 2 → ℕ) a + (![1, 1] : Fin 2 → ℕ) a ≤ S5x5.size a) (hp : 0 < (Rect.unit (s := S5x5) ![2, 1] ![1, 1] h).shape.numel) :
    View.ld X (Rect.unit ![2, 1] ![1, 1] h) (Shape.Idx.first hp) = X (ix2 2 1) := by
  pointwise

/-- A load of one number of the 5 x 5 weights: row 2, column 2. -/
theorem ld5_2 (X : S5x5.Idx → Elt Ideal .f32) (h : ∀ a, (![2, 2] : Fin 2 → ℕ) a + (![1, 1] : Fin 2 → ℕ) a ≤ S5x5.size a) (hp : 0 < (Rect.unit (s := S5x5) ![2, 2] ![1, 1] h).shape.numel) :
    View.ld X (Rect.unit ![2, 2] ![1, 1] h) (Shape.Idx.first hp) = X (ix2 2 2) := by
  pointwise

/-- A load of one number of the 5 x 5 weights: row 2, column 3. -/
theorem ld5_3 (X : S5x5.Idx → Elt Ideal .f32) (h : ∀ a, (![2, 3] : Fin 2 → ℕ) a + (![1, 1] : Fin 2 → ℕ) a ≤ S5x5.size a) (hp : 0 < (Rect.unit (s := S5x5) ![2, 3] ![1, 1] h).shape.numel) :
    View.ld X (Rect.unit ![2, 3] ![1, 1] h) (Shape.Idx.first hp) = X (ix2 2 3) := by
  pointwise

/-- A load of one number of the 5 x 5 weights: row 2, column 4. -/
theorem ld5_4 (X : S5x5.Idx → Elt Ideal .f32) (h : ∀ a, (![2, 4] : Fin 2 → ℕ) a + (![1, 1] : Fin 2 → ℕ) a ≤ S5x5.size a) (hp : 0 < (Rect.unit (s := S5x5) ![2, 4] ![1, 1] h).shape.numel) :
    View.ld X (Rect.unit ![2, 4] ![1, 1] h) (Shape.Idx.first hp) = X (ix2 2 4) := by
  pointwise

/-- A load of one number of the 3 x 3 weights: row 1, column 0. -/
theorem ld3_0 (X : S3x3.Idx → Elt Ideal .f32) (h : ∀ a, (![1, 0] : Fin 2 → ℕ) a + (![1, 1] : Fin 2 → ℕ) a ≤ S3x3.size a) (hp : 0 < (Rect.unit (s := S3x3) ![1, 0] ![1, 1] h).shape.numel) :
    View.ld X (Rect.unit ![1, 0] ![1, 1] h) (Shape.Idx.first hp) = X (ix2 1 0) := by
  pointwise

/-- A load of one number of the 3 x 3 weights: row 1, column 1. -/
theorem ld3_1 (X : S3x3.Idx → Elt Ideal .f32) (h : ∀ a, (![1, 1] : Fin 2 → ℕ) a + (![1, 1] : Fin 2 → ℕ) a ≤ S3x3.size a) (hp : 0 < (Rect.unit (s := S3x3) ![1, 1] ![1, 1] h).shape.numel) :
    View.ld X (Rect.unit ![1, 1] ![1, 1] h) (Shape.Idx.first hp) = X (ix2 1 1) := by
  pointwise

/-- A load of one number of the 3 x 3 weights: row 1, column 2. -/
theorem ld3_2 (X : S3x3.Idx → Elt Ideal .f32) (h : ∀ a, (![1, 2] : Fin 2 → ℕ) a + (![1, 1] : Fin 2 → ℕ) a ≤ S3x3.size a) (hp : 0 < (Rect.unit (s := S3x3) ![1, 2] ![1, 1] h).shape.numel) :
    View.ld X (Rect.unit ![1, 2] ![1, 1] h) (Shape.Idx.first hp) = X (ix2 1 2) := by
  pointwise

/-- The only index of a one-element array. -/
theorem first1 (hp : 0 < S1.numel) : Shape.Idx.first hp = ix1 0 := by
  funext a
  apply Fin.ext
  fin_cases a
  rfl

end Cert.Proof.KernelIdeal
end
-- ==== Proof.KerTable.lean ====
/-
  The table the kernel leaves, read at an index.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.IdealMain
public import proofs.«01_k».proof.Proof.PayTable
public import proofs.«01_k».proof.Proof.KerBlk
public import Idealize.ShloMosaic.Lib.Pipeline.ValueKit
public import Idealize.ShloMosaic.Lib.Pipeline.Frame
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.StableHlo (launchContents after held)

variable (V : (c : Dev nD) → (b : Ref sig .tc) → Buf (Elt Ideal) ((c : Thread nD τ).loc b))

/-- The region leaves the payload of the arrays it was entered with. -/
theorem table_eq (c : Dev nD) :
    table V c = k0_pay1 (F := Ideal) (k0_pay2 (F := Ideal) (V c main_v1))
      (k0_pay6 (F := Ideal) (k0_pay4 (F := Ideal) (V c main_v1))
        (k0_pay5 (F := Ideal) (V c main_v1) (V c main_arg2 (ix1 0)) (V c main_arg4 (ix1 0)) (V c main_arg6 (ix1 0)) (V c main_v4 (ix2 3 0))
          (V c main_v4 (ix2 3 1)) (V c main_v3 (ix2 2 0)) (V c main_v4 (ix2 3 2)) (V c main_v3 (ix2 2 1)) (V c main_v2 (ix2 1 0)))
        (V c main_v4 (ix2 3 3)) (V c main_v3 (ix2 2 2)) (V c main_v2 (ix2 1 1)) (V c main_v4 (ix2 3 4)) (V c main_v3 (ix2 2 3)) (V c main_v2 (ix2 1 2))
        (V c main_v4 (ix2 3 5)) (V c main_v3 (ix2 2 4)) (V c main_v4 (ix2 3 6)) (V c main_v5) (V c main_v7))
      (V c main_v6) (V c main_v8) := by
  unfold table
  refine (tdat V c).arrAt_eq_of_after_last 11 t0_0 (by decide +kernel) _ fun j => ?_
  blk_simp
  dsimp only [tdat]
  unfold runAt bodyRun
  frame_out
  refine (whole_write _ _ j).trans ?_
  rw [blk0_eq, blk1_eq, blk2_eq, blk3_eq, blk4_eq, blk5_eq, blk6_eq, blk7_eq, blk8_eq, blk9_eq, blk10_eq]
  simp only [View.read_whole, first1]
  rw [ld7_0, ld7_1, ld7_2, ld7_3, ld7_4, ld7_5, ld7_6, ld5_0, ld5_1, ld5_2, ld5_3, ld5_4, ld3_0, ld3_1, ld3_2]
  unfold k0_pay6
  with_reducible rfl

open Cert.Proof.PayTable in
/-- The region's table at image `k`, channel `ch` and place `q`. -/
theorem table_at (c : Dev nD) (k : Fin 5) (ch : Fin 256) (q : Fin 16) :
    table V c (ix3 k ch q)
      = pixel (V c main_v1) k ch q * Ideal.logistic ((∑ o : Fin 16,
          PayTable.hid (folded (V c main_v1) (fun t => V c main_v2 (ix2 1 t)) (fun t => V c main_v3 (ix2 2 t)) (fun t => V c main_v4 (ix2 3 t))
            (V c main_arg2 (ix1 0)) (V c main_arg4 (ix1 0)) (V c main_arg6 (ix1 0)) k) (V c main_v5) (V c main_v7) o
            * (show EReal from V c main_v6 (ix2 ch o))) + (show EReal from V c main_v8 (ix2 0 ch))) := by
  rw [table_eq]
  refine (pay1_at _ _ _ _ k ch q).trans ?_
  refine congrArg (fun z => pixel (V c main_v1) k ch q * Ideal.logistic (z + _)) (Finset.sum_congr rfl fun o _ => ?_)
  exact congrArg (· * _) (pay6_at (V c main_v1) (fun t => V c main_v2 (ix2 1 t)) (fun t => V c main_v3 (ix2 2 t)) (fun t => V c main_v4 (ix2 3 t))
            (V c main_arg2 (ix1 0)) (V c main_arg4 (ix1 0)) (V c main_arg6 (ix1 0)) (V c main_v5) (V c main_v7) k o)

end Cert.Proof.KernelIdeal
end
-- ==== Proof.KerOut.lean ====
/-
  The kernel's value: what its buffers hold of the launch's arguments, and its result, read at an index.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.IdealMain
public import proofs.«01_k».proof.Proof.KerTable
public import Idealize.ShloMosaic.Lib.Pointwise
public import Idealize.ShloMosaic.Lib.Pipeline.ValueKit
public import Idealize.ShloMosaic.Lib.Pipeline.Frame
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.StableHlo (launchContents after held)

variable (m : (ℓ : Loc nD τ sig) → Buf (Elt Ideal) ℓ)

/-- The flat images are the first five images of the first argument. -/
theorem in_v1 (d : Dev nD) (k : Fin 5) (c : Fin 256) (n : Fin 625) :
    W1 m d main_v1 (ix3 k c n) = launchContents m d (Proc.tc.devRef main_arg0)
      (ix4 (⟨k.val, by omega⟩ : Fin 64) c (⟨n.val / 25, by omega⟩ : Fin 25) (⟨n.val % 25, by omega⟩ : Fin 25)) := by
  unfold W1 opsA
  after_results_simp
  pointwise

/-- The 3 x 3 weights as a matrix. -/
theorem in_v2 (d : Dev nD) (a b : Fin 3) :
    W1 m d main_v2 (ix2 a b) = launchContents m d (Proc.tc.devRef main_arg1) (ix4 0 0 a b) := by
  unfold W1 opsA
  after_results_simp
  pointwise

/-- The 5 x 5 weights as a matrix. -/
theorem in_v3 (d : Dev nD) (a b : Fin 5) :
    W1 m d main_v3 (ix2 a b) = launchContents m d (Proc.tc.devRef main_arg3) (ix4 0 0 a b) := by
  unfold W1 opsA
  after_results_simp
  pointwise

/-- The 7 x 7 weights as a matrix. -/
theorem in_v4 (d : Dev nD) (a b : Fin 7) :
    W1 m d main_v4 (ix2 a b) = launchContents m d (Proc.tc.devRef main_arg5) (ix4 0 0 a b) := by
  unfold W1 opsA
  after_results_simp
  pointwise

/-- The first layer's weights as a matrix. -/
theorem in_v5 (d : Dev nD) (o : Fin 16) (c : Fin 256) :
    W1 m d main_v5 (ix2 o c) = launchContents m d (Proc.tc.devRef main_arg7) (ix4 o c 0 0) := by
  unfold W1 opsA
  after_results_simp
  pointwise

/-- The second layer's weights as a matrix. -/
theorem in_v6 (d : Dev nD) (c : Fin 256) (o : Fin 16) :
    W1 m d main_v6 (ix2 c o) = launchContents m d (Proc.tc.devRef main_arg9) (ix4 c o 0 0) := by
  unfold W1 opsA
  after_results_simp
  pointwise

/-- The first layer's bias as a row. -/
theorem in_v7 (d : Dev nD) (o : Fin 16) :
    W1 m d main_v7 (ix2 0 o) = launchContents m d (Proc.tc.devRef main_arg8) (ix1 o) := by
  unfold W1 opsA
  after_results_simp
  pointwise

/-- The second layer's bias as a row. -/
theorem in_v8 (d : Dev nD) (c : Fin 256) :
    W1 m d main_v8 (ix2 0 c) = launchContents m d (Proc.tc.devRef main_arg10) (ix1 c) := by
  unfold W1 opsA
  after_results_simp
  pointwise

/-- The operations write no argument. -/
theorem in_arg2 (d : Dev nD) : W1 m d main_arg2 = launchContents m d (Proc.tc.devRef main_arg2) := by
  unfold W1 opsA
  after_results_simp

/-- The operations write no argument. -/
theorem in_arg4 (d : Dev nD) : W1 m d main_arg4 = launchContents m d (Proc.tc.devRef main_arg4) := by
  unfold W1 opsA
  after_results_simp

/-- The operations write no argument. -/
theorem in_arg6 (d : Dev nD) : W1 m d main_arg6 = launchContents m d (Proc.tc.devRef main_arg6) := by
  unfold W1 opsA
  after_results_simp

/-- The table as one line. -/
theorem tbl_at (k : Fin 5) (c : Fin 256) (q : Fin 16) (n : ℕ) (hn : n = (256 * k.val + c.val) * 16 + q.val) (h : n < 20480) :
    tbl m (ix1 ⟨n, h⟩) = table (fun c b => W1 m c b) 0 (ix3 k c q) := by
  unfold tbl W3 opsB
  after_results_simp
  rw [W2_table]
  pointwise
  have e1 : (⟨n / 4096, by omega⟩ : Fin 5) = k := Fin.ext (by show n / 4096 = k.val; omega)
  have e2 : (⟨n / 16 % 256, by omega⟩ : Fin 256) = c := Fin.ext (by show n / 16 % 256 = c.val; omega)
  have e3 : (⟨n % 16, by omega⟩ : Fin 16) = q := Fin.ext (by show n % 16 = q.val; omega)
  rw [e1, e2, e3]

/-- The result's place `(i, mm, p, a, b)` is what the call gathered for row `500 i + 100 mm + p` in column `3 a + b`. -/
theorem end_at (i : Fin 64) (mm : Fin 5) (p : Fin 100) (a b : Fin 3) :
    W5 m 0 main_v15 (ix5 i mm p a b) = gat (tbl m) (ixl m) ((i.val * 500 + mm.val * 100 + p.val) / 1024) (a.val * 3 + b.val) ((i.val * 500 + mm.val * 100 + p.val) % 1024) := by
  unfold W5 opsC
  after_results_simp
  rw [W4_out]
  pointwise
  rfl

/-- The result's place `(i, mm, p, a, b)` is the table's row the index list names there, at `3 a + b`. -/
theorem out_at (i : Fin 64) (mm : Fin 5) (p : Fin 100) (a b : Fin 3) (k : Fin 5) (c : Fin 256)
    (hw : (lit0t (i.val * 500 + mm.val * 100 + p.val)).toNat = 256 * k.val + c.val) :
    W5 m 0 main_v15 (ix5 i mm p a b) = table (fun c b => W1 m c b) 0 (ix3 k c ⟨a.val * 3 + b.val, by omega⟩) := by
  rw [end_at]
  unfold gat
  have e : (ixl m : S32768.Idx → BitVec 32) (cIdx (1024 * ((i.val * 500 + mm.val * 100 + p.val) / 1024) + (i.val * 500 + mm.val * 100 + p.val) % 1024))
      = lit0t (i.val * 500 + mm.val * 100 + p.val) := by
    rw [ixl_eq, Nat.div_add_mod]
    show lit0t ((S32768.rowMajor (cIdx (i.val * 500 + mm.val * 100 + p.val))).val) = _
    congr 1
    have h1 : cIdx (i.val * 500 + mm.val * 100 + p.val) = ix1 (⟨i.val * 500 + mm.val * 100 + p.val, by omega⟩ : Fin 32768) := by
      funext x
      apply Fin.ext
      fin_cases x
      show (i.val * 500 + mm.val * 100 + p.val) % 32768 = i.val * 500 + mm.val * 100 + p.val
      omega
    rw [h1]
    exact rowMajor_val1 _
  rw [e, hw]
  have h2 : tIdx ((256 * k.val + c.val) * 16 + (a.val * 3 + b.val)) = ix1 (⟨(256 * k.val + c.val) * 16 + (a.val * 3 + b.val), by omega⟩ : Fin 20480) := by
    funext x
    apply Fin.ext
    fin_cases x
    show ((256 * k.val + c.val) * 16 + (a.val * 3 + b.val)) % 20480 = _
    exact Nat.mod_eq_of_lt (by omega)
  rw [h2]
  exact tbl_at m k c ⟨a.val * 3 + b.val, by omega⟩ _ rfl _

end Cert.Proof.KernelIdeal
end
-- ==== Proof.RefTable.lean ====
/-
  The reference's value, read at an index: the mean of an image's channel, the three line
  convolutions over the channels' means, the sum they make with it, and the scaled image.
-/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.RefTable

open Cert.ReferenceIdeal Cert.ReferenceIdeal.Gen Cert.ReferenceIdeal.Value
open Idealize.ShloMosaic Idealize.ShloMosaic.TcCoe Idealize.SL.Sem

/-- The launch contents the reference's value is a term of. -/
local notation "Vals" => Valuation τ sig (Elt Ideal)

/-- The mean of channel `c` of image `k`: the sum of its 625 pixels over 625. -/
def mean (V : Vals) (k : Fin 64) (c : Fin 256) : EReal :=
  Ideal.div (∑ x : Fin 25, ∑ y : Fin 25, (V (Proc.tc.devRef main_arg0) (ix4 k c x y) : EReal)) (Ideal.ofBits .f32 0x441C4000#32)

/-- The means of image `k` with three zeros on either side. -/
def line (V : Vals) (k : Fin 64) (c : ℕ) : EReal :=
  if h : 3 ≤ c ∧ c < 259 then mean V k ⟨c - 3, by omega⟩ else 0

theorem v3_at (V : Vals) (k : Fin 64) (c : Fin 256) (x y : Fin 1) : res_main_v3 V (ix4 k c x y) = mean V k c := by
  unfold res_main_v3 mean
  pointwise

/-- The constant zero the paddings are filled with is zero. -/
theorem fill_zero : (FloatOps.sitofp (F := Ideal) FTy.f32 (0#32) : EReal) = 0 := by
  show ((((0#32 : BitVec 32).toInt : ℝ)) : EReal) = 0
  simp

/-- The means padded for the window of 3 rows: the middle row is the line of means, the others are zero. -/
theorem pad3 (V : Vals) (k : Fin 64) (r : Fin 3) (c : Fin 258) :
    res_main_v5 V (ix4 k 0 r c) = if r.val = 1 then line V k (c.val + 2) else 0 := by
  unfold res_main_v5 res_main_v4
  clean_types
  pointwise [v3_at, fill_zero]
  by_cases hr : r.val = 1
  · rw [if_pos hr]
    unfold line
    by_cases hc : 3 ≤ c.val + 2 ∧ c.val + 2 < 259
    · rw [dif_pos hc, dif_pos ⟨⟨by omega, by omega⟩, by omega, by omega⟩]
      congr 1
    · rw [dif_neg hc, dif_neg (by omega)]
  · rw [if_neg hr, dif_neg (by omega)]

/-- The means padded for the window of 5 rows: the middle row is the line of means, the others are zero. -/
theorem pad5 (V : Vals) (k : Fin 64) (r : Fin 5) (c : Fin 260) :
    res_main_v64 V (ix4 k 0 r c) = if r.val = 2 then line V k (c.val + 1) else 0 := by
  unfold res_main_v64 res_main_v4
  clean_types
  pointwise [v3_at, fill_zero]
  by_cases hr : r.val = 2
  · rw [if_pos hr]
    unfold line
    by_cases hc : 3 ≤ c.val + 1 ∧ c.val + 1 < 259
    · rw [dif_pos hc, dif_pos ⟨⟨by omega, by omega⟩, by omega, by omega⟩]
      congr 1
    · rw [dif_neg hc, dif_neg (by omega)]
  · rw [if_neg hr, dif_neg (by omega)]

/-- The means padded for the window of 7 rows: the middle row is the line of means, the others are zero. -/
theorem pad7 (V : Vals) (k : Fin 64) (r : Fin 7) (c : Fin 262) :
    res_main_v219 V (ix4 k 0 r c) = if r.val = 3 then line V k (c.val) else 0 := by
  unfold res_main_v219 res_main_v4
  clean_types
  pointwise [v3_at, fill_zero]
  by_cases hr : r.val = 3
  · rw [if_pos hr]
    unfold line
    by_cases hc : 3 ≤ c.val ∧ c.val < 259
    · rw [dif_pos hc, dif_pos ⟨⟨by omega, by omega⟩, by omega, by omega⟩]
    · rw [dif_neg hc, dif_neg (by omega)]
  · rw [if_neg hr, dif_neg (by omega)]

/-- The 3 products of the middle row of the 3 x 3 window. -/
def conv3 (V : Vals) (k : Fin 64) (c : Fin 256) : EReal :=
  let w : Fin 3 → EReal := fun t => V (Proc.tc.devRef main_arg1) (ix4 0 0 1 t)
  w 0 * line V k (c.val + 2) + w 1 * line V k (c.val + 3) + w 2 * line V k (c.val + 4)

/-- The 5 products of the middle row of the 5 x 5 window. -/
def conv5 (V : Vals) (k : Fin 64) (c : Fin 256) : EReal :=
  let w : Fin 5 → EReal := fun t => V (Proc.tc.devRef main_arg3) (ix4 0 0 2 t)
  w 0 * line V k (c.val + 1) + w 1 * line V k (c.val + 2) + w 2 * line V k (c.val + 3) + w 3 * line V k (c.val + 4) + w 4 * line V k (c.val + 5)

/-- The 7 products of the middle row of the 7 x 7 window. -/
def conv7 (V : Vals) (k : Fin 64) (c : Fin 256) : EReal :=
  let w : Fin 7 → EReal := fun t => V (Proc.tc.devRef main_arg5) (ix4 0 0 3 t)
  w 0 * line V k (c.val + 0) + w 1 * line V k (c.val + 1) + w 2 * line V k (c.val + 2) + w 3 * line V k (c.val + 3) + w 4 * line V k (c.val + 4) + w 5 * line V k (c.val + 5) + w 6 * line V k (c.val + 6)

/-- The 5 x 5 convolution and its bias. -/
theorem v218_at (V : Vals) (k : Fin 64) (c : Fin 256) :
    res_main_v218 V (ix4 k 0 0 c) = conv5 V k c + (V (Proc.tc.devRef main_arg4) (ix1 0) : EReal) := by
  unfold res_main_v218 res_main_v143 conv5
  clean_types
  pointwise [pad5]
  simp only [mul_zero, zero_add, add_zero, show 1 + c.val + 1 = c.val + 2 by omega, show 2 + c.val + 1 = c.val + 3 by omega,
    show 3 + c.val + 1 = c.val + 4 by omega, show 4 + c.val + 1 = c.val + 5 by omega]

/-- The 7 x 7 convolution's products up to the seventh row's second last. -/
theorem v454_at (V : Vals) (k : Fin 64) (c : Fin 256) :
    res_main_v454 V (ix4 k 0 0 c) = conv7 V k c := by
  unfold res_main_v454 res_main_v376 res_main_v298 conv7
  clean_types
  pointwise [pad7]
  simp only [mul_zero, zero_add, add_zero, Nat.add_comm _ c.val]

/-- What the attention reads: the mean plus the three convolutions, each with its bias. -/
def summed (V : Vals) (k : Fin 64) (c : Fin 256) : EReal :=
  mean V k c + (conv3 V k c + V (Proc.tc.devRef main_arg2) (ix1 0)) + (conv5 V k c + V (Proc.tc.devRef main_arg4) (ix1 0))
    + (conv7 V k c + V (Proc.tc.devRef main_arg6) (ix1 0))

theorem v523_at (V : Vals) (k : Fin 64) (c : Fin 256) : res_main_v523 V (ix4 k c 0 0) = summed V k c := by
  unfold res_main_v523 summed conv3
  clean_types
  pointwise [pad3, pad7, v218_at, v454_at, v3_at]
  simp only [mul_zero, zero_add, add_zero, show 1 + c.val + 2 = c.val + 3 by omega, show 2 + c.val + 2 = c.val + 4 by omega]

/-- The attention's hidden layer. -/
def hid (V : Vals) (k : Fin 64) (o : Fin 16) : EReal :=
  max ((∑ c : Fin 256, summed V k c * V (Proc.tc.devRef main_arg7) (ix4 o c 0 0)) + V (Proc.tc.devRef main_arg8) (ix1 o)) 0

/-- The attention's logit. -/
def logit (V : Vals) (k : Fin 64) (c : Fin 256) : EReal :=
  (∑ o : Fin 16, hid V k o * V (Proc.tc.devRef main_arg9) (ix4 c o 0 0)) + V (Proc.tc.devRef main_arg10) (ix1 c)

theorem v547_at (V : Vals) (k : Fin 64) (c : Fin 256) (x y : Fin 25) :
    res_main_v547 V (ix4 k c x y) = (show EReal from V (Proc.tc.devRef main_arg0) (ix4 k c x y)) * Ideal.div 1 (1 + Ideal.exp (-(logit V k c))) := by
  unfold res_main_v547 logit hid
  clean_types
  pointwise [v523_at]

end Cert.Proof.RefTable
end
-- ==== Proof.RefOut.lean ====
/-
  The reference's result, read at an index: the gathers of 3 x 3 patches of the scaled image.
-/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.RefOut

open Cert.ReferenceIdeal Cert.ReferenceIdeal.Gen Cert.ReferenceIdeal.Value
open Idealize.ShloMosaic Idealize.ShloMosaic.TcCoe Idealize.SL.Sem

/-- The launch contents the reference's value is a term of. -/
local notation "Vals" => Valuation τ sig (Elt Ideal)

/-- The gather's dimension numbers. -/
abbrev dims := gather_S64x256x25x25_S64x100x4_S64x100x3x3_23_01_n_n_0123_2_1133

/-- The four start words of a result element are the four columns of its row of the index array. -/
theorem start_at (i : Fin 64) (p : Fin 100) (a b : Fin 3) (n : Fin 4) (h : n.val < dims.startIndexMap.length) :
    dims.siIdx (ix4 i p a b) ⟨n.val, h⟩ = ix3 i p n := by
  funext c
  refine Fin.ext ?_
  match c with
  | ⟨0, _⟩ => rfl
  | ⟨1, _⟩ => rfl
  | ⟨2, _⟩ => rfl

/-- A patch's element: the image at the four start words, each read signed and clamped so that the 3 x 3 patch fits,
    plus the element's place in the patch. -/
theorem gather_at (x : S64x256x25x25.Idx → EReal) (idx : IVec S64x100x4 32) (i : Fin 64) (p : Fin 100) (a b : Fin 3)
    (k : Fin 64) (c : Fin 256) (h0 : idx (ix3 i p 0) = BitVec.ofNat 32 k.val) (h1 : (idx (ix3 i p 1)).toNat = c.val)
    (h2 : idx (ix3 i p 2) = 11#32) (h3 : idx (ix3 i p 3) = 11#32) :
    Host.gather dims x idx (ix4 i p a b) = x (ix4 k c ⟨11 + a.val, by omega⟩ ⟨11 + b.val, by omega⟩) := by
  unfold Host.gather
  congr 1
  have e1 : (idx (ix3 i p 1)).toInt.toNat = c.val := by
    have := (idx (ix3 i p 1)).toInt_eq_toNat_of_lt (by omega)
    omega
  have e0 : (idx (ix3 i p 0)).toInt.toNat = k.val := by
    have hk : (idx (ix3 i p 0)).toNat = k.val := by rw [h0, BitVec.toNat_ofNat]; omega
    have := (idx (ix3 i p 0)).toInt_eq_toNat_of_lt (by omega)
    omega
  have e2 : (idx (ix3 i p 2)).toInt.toNat = 11 := by rw [h2]; decide
  have e3 : (idx (ix3 i p 3)).toInt.toNat = 11 := by rw [h3]; decide
  funext q
  refine Fin.ext ?_
  show dims.start (ix4 i p a b) idx q + dims.batchCoord (ix4 i p a b) q + dims.offCoord (ix4 i p a b) q = _
  rw [GatherDims.batchCoord_eq_zero _ _ _ List.not_mem_nil, Nat.add_zero]
  match q with
  | ⟨0, _⟩ =>
    have e := congrArg (fun z => (idx z).toInt.toNat) (start_at i p a b 0 (by decide))
    show min (idx (dims.siIdx (ix4 i p a b) ⟨0, by decide⟩)).toInt.toNat 63 + 0 = k.val
    have e' : (idx (dims.siIdx (ix4 i p a b) ⟨0, by decide⟩)).toInt.toNat = k.val := e.trans e0
    omega
  | ⟨1, _⟩ =>
    have e := congrArg (fun z => (idx z).toInt.toNat) (start_at i p a b 1 (by decide))
    show min (idx (dims.siIdx (ix4 i p a b) ⟨1, by decide⟩)).toInt.toNat 255 + 0 = c.val
    have e' : (idx (dims.siIdx (ix4 i p a b) ⟨1, by decide⟩)).toInt.toNat = c.val := e.trans e1
    omega
  | ⟨2, _⟩ =>
    have e := congrArg (fun z => (idx z).toInt.toNat) (start_at i p a b 2 (by decide))
    show min (idx (dims.siIdx (ix4 i p a b) ⟨2, by decide⟩)).toInt.toNat 22 + a.val = 11 + a.val
    have e' : (idx (dims.siIdx (ix4 i p a b) ⟨2, by decide⟩)).toInt.toNat = 11 := e.trans e2
    omega
  | ⟨3, _⟩ =>
    have e := congrArg (fun z => (idx z).toInt.toNat) (start_at i p a b 3 (by decide))
    show min (idx (dims.siIdx (ix4 i p a b) ⟨3, by decide⟩)).toInt.toNat 22 + b.val = 11 + b.val
    have e' : (idx (dims.siIdx (ix4 i p a b) ⟨3, by decide⟩)).toInt.toNat = 11 := e.trans e3
    omega

/-- The list of channels that part `m` of the result reads, image by image. -/
def colWord (m : Fin 5) (n : ℕ) : BitVec 32 :=
  match m with
  | 0 => lit4t n
  | 1 => lit3t n
  | 2 => lit2t n
  | 3 => lit1t n
  | 4 => lit0t n

theorem place (i : Fin 64) (p : Fin 100) : S64x100.rowMajor (ix2 i p) = (⟨100 * i.val + p.val, by omega⟩ : Fin 6400) := by
  refine Fin.ext ?_
  refine (rowMajor_val2 (ix2 i p) 100 rfl).trans ?_
  show i.val * 100 + p.val = 100 * i.val + p.val
  omega

theorem c_7_at (V : Vals) (i : Fin 64) (p : Fin 100) : res_main_c_7 V (ix2 i p) = lit4t (100 * i.val + p.val) := by
  show lit4 (S64x100.rowMajor (ix2 i p)) = _
  rw [place]

theorem c_5_at (V : Vals) (i : Fin 64) (p : Fin 100) : res_main_c_5 V (ix2 i p) = lit3t (100 * i.val + p.val) := by
  show lit3 (S64x100.rowMajor (ix2 i p)) = _
  rw [place]

theorem c_3_at (V : Vals) (i : Fin 64) (p : Fin 100) : res_main_c_3 V (ix2 i p) = lit2t (100 * i.val + p.val) := by
  show lit2 (S64x100.rowMajor (ix2 i p)) = _
  rw [place]

theorem c_1_at (V : Vals) (i : Fin 64) (p : Fin 100) : res_main_c_1 V (ix2 i p) = lit1t (100 * i.val + p.val) := by
  show lit1 (S64x100.rowMajor (ix2 i p)) = _
  rw [place]

theorem c_at (V : Vals) (i : Fin 64) (p : Fin 100) : res_main_c V (ix2 i p) = lit0t (100 * i.val + p.val) := by
  show lit0 (S64x100.rowMajor (ix2 i p)) = _
  rw [place]

/-- The result at image `i`, part `m`, patch `p`: the scaled image `4 - m` at the channel the list names, rows and
    columns 11 to 13. -/
theorem out_at (V : Vals) (i : Fin 64) (m : Fin 5) (p : Fin 100) (a b : Fin 3) (c : Fin 256)
    (hc : (colWord m (100 * i.val + p.val)).toNat = c.val) :
    res_main_v608 V (ix5 i m p a b) = res_main_v547 V (ix4 ⟨4 - m.val, by omega⟩ c ⟨11 + a.val, by omega⟩ ⟨11 + b.val, by omega⟩) := by
  unfold res_main_v608
  clean_types
  pointwise
  fin_vals m with hm
  all_goals simp only [hm, Nat.reduceSub, Nat.reduceLT, ↓reduceDIte]
  · obtain rfl : m = 0 := Fin.ext hm
    refine gather_at _ _ i p a b 4 c ?_ ?_ ?_ ?_
    · pointwise; rfl
    · pointwise
      exact (congrArg BitVec.toNat (c_7_at V i p)).trans hc
    · pointwise
    · pointwise
  · obtain rfl : m = 1 := Fin.ext hm
    refine gather_at _ _ i p a b 3 c ?_ ?_ ?_ ?_
    · pointwise; rfl
    · pointwise
      exact (congrArg BitVec.toNat (c_5_at V i p)).trans hc
    · pointwise
    · pointwise
  · obtain rfl : m = 2 := Fin.ext hm
    refine gather_at _ _ i p a b 2 c ?_ ?_ ?_ ?_
    · pointwise; rfl
    · pointwise
      exact (congrArg BitVec.toNat (c_3_at V i p)).trans hc
    · pointwise
    · pointwise
  · obtain rfl : m = 3 := Fin.ext hm
    refine gather_at _ _ i p a b 1 c ?_ ?_ ?_ ?_
    · pointwise; rfl
    · pointwise
      exact (congrArg BitVec.toNat (c_1_at V i p)).trans hc
    · pointwise
    · pointwise
  · obtain rfl : m = 4 := Fin.ext hm
    refine gather_at _ _ i p a b 0 c ?_ ?_ ?_ ?_
    · pointwise; rfl
    · pointwise
      exact (congrArg BitVec.toNat (c_at V i p)).trans hc
    · pointwise
    · pointwise

end Cert.Proof.RefOut
end
-- ==== Proof.Fold.lean ====
/-
  The arithmetic the two programs differ by: one sum of 625 numbers against 25 sums of 25, a multiplication by
  1/625 against a division by 625, and three convolutions against one whose weights are added first.
-/
module

public import Idealize.ShloMosaic.Lib.Pointwise

@[expose] public section

noncomputable section

namespace Cert.Proof.Fold

open Idealize.ShloMosaic

/-- A sum of 625 numbers, row by row. -/
theorem sum_rows (f : Fin 25 → Fin 25 → EReal) :
    (∑ n : Fin 625, f ⟨n.val / 25, by omega⟩ ⟨n.val % 25, by omega⟩) = ∑ x : Fin 25, ∑ y : Fin 25, f x y := by
  rw [← Fintype.sum_prod_type']
  refine Fintype.sum_equiv (finProdFinEquiv (m := 25) (n := 25)).symm _ _ fun n => ?_
  rfl

/-- The divisor is 625. -/
theorem divisor : Ideal.ofBits .f32 0x441C4000#32 = ((625 : ℝ) : EReal) := by
  simp [Ideal.ofBits, Ideal.ieee, -EReal.coe_mul]; norm_num

/-- Dividing by it is multiplying by its inverse. -/
theorem div_625 (z : EReal) : Ideal.div z (Ideal.ofBits .f32 0x441C4000#32) = z * ((625⁻¹ : ℝ) : EReal) := by
  rw [divisor, Ideal.div_coe (by norm_num), one_div]

/-- A number that is neither infinity. -/
def Fin' (z : EReal) : Prop := ∃ r : ℝ, z = (r : EReal)

theorem Fin'.add {a b : EReal} : Fin' a → Fin' b → Fin' (a + b) := by
  rintro ⟨r, rfl⟩ ⟨s, rfl⟩; exact ⟨r + s, (EReal.coe_add _ _).symm⟩

theorem Fin'.mul {a b : EReal} : Fin' a → Fin' b → Fin' (a * b) := by
  rintro ⟨r, rfl⟩ ⟨s, rfl⟩; exact ⟨r * s, (EReal.coe_mul _ _).symm⟩

theorem Fin'.zero : Fin' 0 := ⟨0, EReal.coe_zero.symm⟩

/-- A finite sum of finite numbers is finite. -/
theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

/-- Seven means times the added weights, with the three biases, are the three convolutions, each with its bias. -/
theorem fold (x : EReal) (l : ℕ → EReal) (w3 : Fin 3 → EReal) (w5 : Fin 5 → EReal) (w7 : Fin 7 → EReal) (b3 b5 b7 : EReal) (c : ℕ)
    (hl : ∀ n, Fin' (l n)) (h3 : ∀ t, Fin' (w3 t)) (h5 : ∀ t, Fin' (w5 t)) (h7 : ∀ t, Fin' (w7 t)) :
    x + (b3 + b5 + b7) + w7 0 * l c + (w7 1 + w5 0) * l (c + 1) + (w7 2 + w5 1 + w3 0) * l (c + 2)
        + (w7 3 + w5 2 + w3 1) * l (c + 3) + (w7 4 + w5 3 + w3 2) * l (c + 4) + (w7 5 + w5 4) * l (c + 5) + w7 6 * l (c + 6)
      = x + ((w3 0 * l (c + 2) + w3 1 * l (c + 3) + w3 2 * l (c + 4)) + b3)
        + ((w5 0 * l (c + 1) + w5 1 * l (c + 2) + w5 2 * l (c + 3) + w5 3 * l (c + 4) + w5 4 * l (c + 5)) + b5)
        + ((w7 0 * l (c + 0) + w7 1 * l (c + 1) + w7 2 * l (c + 2) + w7 3 * l (c + 3) + w7 4 * l (c + 4) + w7 5 * l (c + 5) + w7 6 * l (c + 6)) + b7) := by
  choose L hL using hl
  choose A hA using h3
  choose B hB using h5
  choose C hC using h7
  simp only [hL, hA, hB, hC, add_zero]
  have e : ((C 0 * L c + (C 1 + B 0) * L (c + 1) + (C 2 + B 1 + A 0) * L (c + 2) + (C 3 + B 2 + A 1) * L (c + 3)
      + (C 4 + B 3 + A 2) * L (c + 4) + (C 5 + B 4) * L (c + 5) + C 6 * L (c + 6) : ℝ) : EReal)
      = (((A 0 * L (c + 2) + A 1 * L (c + 3) + A 2 * L (c + 4))
        + (B 0 * L (c + 1) + B 1 * L (c + 2) + B 2 * L (c + 3) + B 3 * L (c + 4) + B 4 * L (c + 5))
        + (C 0 * L c + C 1 * L (c + 1) + C 2 * L (c + 2) + C 3 * L (c + 3) + C 4 * L (c + 4) + C 5 * L (c + 5) + C 6 * L (c + 6)) : ℝ) : EReal) := by
    congr 1; ring
  simp only [EReal.coe_add, EReal.coe_mul] at e
  generalize ((A 0 : EReal) * L (c + 2) + A 1 * L (c + 3) + A 2 * L (c + 4)) = P at e ⊢
  generalize ((B 0 : EReal) * L (c + 1) + B 1 * L (c + 2) + B 2 * L (c + 3) + B 3 * L (c + 4) + B 4 * L (c + 5)) = Q at e ⊢
  generalize ((C 0 : EReal) * L c + C 1 * L (c + 1) + C 2 * L (c + 2) + C 3 * L (c + 3) + C 4 * L (c + 4) + C 5 * L (c + 5) + C 6 * L (c + 6)) = R at e ⊢
  have e2 : x + (P + b3) + (Q + b5) + (R + b7) = x + (b3 + b5 + b7) + (P + Q + R) := by ac_rfl
  rw [e2, ← e]
  simp only [add_assoc]

end Cert.Proof.Fold
end
-- ==== Proof.Link.lean ====
/-
  The two values, place by place: the kernel's table holds the reference's scaled image, and the index list names the
  row of it that the reference's column lists name.
-/
module

public import proofs.«01_k».proof.Proof.KerOut
public import proofs.«01_k».proof.Proof.RefTable
public import proofs.«01_k».proof.Proof.RefOut
public import proofs.«01_k».proof.Proof.Fold
public import proofs.«01_k».proof.Proof.Lists

@[expose] public section

set_option maxRecDepth 16384

noncomputable section

namespace Cert.Proof.Link

open Idealize.ShloMosaic Idealize.ShloMosaic.TcCoe Idealize.SL.Sem
open Idealize.ShloMosaic.StableHlo (launchContents)
open Cert.Proof.Fold

/-- The word of the index list for place `(i, m, p)` is `256 (4 - m)` more than the reference's, which is below 256. -/
theorem word (i : Fin 64) (m : Fin 5) (p : Fin 100) :
    (Cert.KernelIdeal.lit0t (i.val * 500 + m.val * 100 + p.val)).toNat = 256 * (4 - m.val) + (RefOut.colWord m (100 * i.val + p.val)).toNat
      ∧ (RefOut.colWord m (100 * i.val + p.val)).toNat < 256 := by
  have e1 : (100 * i.val + p.val) / 100 = i.val := by omega
  have e2 : (100 * i.val + p.val) % 100 = p.val := by omega
  have hn : 100 * i.val + p.val < 6400 := by omega
  fin_cases m
  · have h := Lists.same0 _ hn
    unfold Lists.Same0 at h; rw [e1, e2] at h
    rw [show i.val * 500 + (0 : ℕ) * 100 + p.val = 500 * i.val + 0 + p.val by omega]
    exact h
  · have h := Lists.same1 _ hn
    unfold Lists.Same1 at h; rw [e1, e2] at h
    rw [show i.val * 500 + (1 : ℕ) * 100 + p.val = 500 * i.val + 100 + p.val by omega]
    exact h
  · have h := Lists.same2 _ hn
    unfold Lists.Same2 at h; rw [e1, e2] at h
    rw [show i.val * 500 + (2 : ℕ) * 100 + p.val = 500 * i.val + 200 + p.val by omega]
    exact h
  · have h := Lists.same3 _ hn
    unfold Lists.Same3 at h; rw [e1, e2] at h
    rw [show i.val * 500 + (3 : ℕ) * 100 + p.val = 500 * i.val + 300 + p.val by omega]
    exact h
  · have h := Lists.same4 _ hn
    unfold Lists.Same4 at h; rw [e1, e2] at h
    rw [show i.val * 500 + (4 : ℕ) * 100 + p.val = 500 * i.val + 400 + p.val by omega]
    exact h

/-- The reference's contents. -/
local notation "Vals" => Valuation Cert.ReferenceIdeal.τ Cert.ReferenceIdeal.sig (Elt Ideal)

/-- A buffer of the reference, as its device names it. -/
abbrev rr (b : Ref Cert.ReferenceIdeal.sig .tc) : DevRef Cert.ReferenceIdeal.τ Cert.ReferenceIdeal.sig := Proc.devRef Proc.tc b

variable (V : Vals)

section
variable (x : Cert.KernelIdeal.S5x256x625.Idx → EReal)

/-- The kernel's mean is the reference's, from the same pixels. -/
theorem mean_eq (hx : ∀ (k : Fin 5) (c : Fin 256) (n : Fin 625), x (ix3 k c n)
      = (show EReal from V (rr Cert.ReferenceIdeal.main_arg0) (ix4 (⟨k.val, by omega⟩ : Fin 64) c (⟨n.val / 25, by omega⟩ : Fin 25) (⟨n.val % 25, by omega⟩ : Fin 25))))
    (k : Fin 5) (c : Fin 256) : PayTable.mean x k c = RefTable.mean V ⟨k.val, by omega⟩ c := by
  unfold PayTable.mean RefTable.mean
  rw [div_625]
  simp only [hx]
  rw [sum_rows (fun a b => (show EReal from V (rr Cert.ReferenceIdeal.main_arg0) (ix4 (⟨k.val, by omega⟩ : Fin 64) c a b)))]

/-- The kernel's padded line of means is the reference's. -/
theorem line_eq (hx : ∀ (k : Fin 5) (c : Fin 256) (n : Fin 625), x (ix3 k c n)
      = (show EReal from V (rr Cert.ReferenceIdeal.main_arg0) (ix4 (⟨k.val, by omega⟩ : Fin 64) c (⟨n.val / 25, by omega⟩ : Fin 25) (⟨n.val % 25, by omega⟩ : Fin 25))))
    (k : Fin 5) (c : ℕ) : PayTable.line x k c = RefTable.line V ⟨k.val, by omega⟩ c := by
  unfold PayTable.line RefTable.line
  simp only [mean_eq V x hx]

/-- The reference's means are finite where the images are. -/
theorem line_fin (f0 : ∀ i, Fin' (show EReal from V (rr Cert.ReferenceIdeal.main_arg0) i)) (k : Fin 64) (c : ℕ) : Fin' (RefTable.line V k c) := by
  unfold RefTable.line
  split
  · unfold RefTable.mean
    rw [div_625]
    exact (Fin'.sum _ _ fun a => Fin'.sum _ _ fun b => f0 _).mul ⟨_, rfl⟩
  · exact Fin'.zero

/-- What the two attentions read is the same, from finite images and weights. -/
theorem folded_eq (hx : ∀ (k : Fin 5) (c : Fin 256) (n : Fin 625), x (ix3 k c n)
      = (show EReal from V (rr Cert.ReferenceIdeal.main_arg0) (ix4 (⟨k.val, by omega⟩ : Fin 64) c (⟨n.val / 25, by omega⟩ : Fin 25) (⟨n.val % 25, by omega⟩ : Fin 25))))
    (f0 : ∀ i, Fin' (show EReal from V (rr Cert.ReferenceIdeal.main_arg0) i)) (f1 : ∀ i, Fin' (show EReal from V (rr Cert.ReferenceIdeal.main_arg1) i))
    (f3 : ∀ i, Fin' (show EReal from V (rr Cert.ReferenceIdeal.main_arg3) i)) (f5 : ∀ i, Fin' (show EReal from V (rr Cert.ReferenceIdeal.main_arg5) i))
    (k : Fin 5) (c : Fin 256) :
    PayTable.folded x (fun t => V (rr Cert.ReferenceIdeal.main_arg1) (ix4 0 0 1 t)) (fun t => V (rr Cert.ReferenceIdeal.main_arg3) (ix4 0 0 2 t))
      (fun t => V (rr Cert.ReferenceIdeal.main_arg5) (ix4 0 0 3 t)) (V (rr Cert.ReferenceIdeal.main_arg2) (ix1 0)) (V (rr Cert.ReferenceIdeal.main_arg4) (ix1 0))
      (V (rr Cert.ReferenceIdeal.main_arg6) (ix1 0)) k c = RefTable.summed V ⟨k.val, by omega⟩ c := by
  have e := fold (RefTable.mean V ⟨k.val, by omega⟩ c) (RefTable.line V ⟨k.val, by omega⟩)
    (fun t => (show EReal from V (rr Cert.ReferenceIdeal.main_arg1) (ix4 0 0 1 t))) (fun t => (show EReal from V (rr Cert.ReferenceIdeal.main_arg3) (ix4 0 0 2 t)))
    (fun t => (show EReal from V (rr Cert.ReferenceIdeal.main_arg5) (ix4 0 0 3 t))) (V (rr Cert.ReferenceIdeal.main_arg2) (ix1 0)) (V (rr Cert.ReferenceIdeal.main_arg4) (ix1 0))
    (V (rr Cert.ReferenceIdeal.main_arg6) (ix1 0)) c.val (line_fin V f0 _) (fun t => f1 _) (fun t => f3 _) (fun t => f5 _)
  unfold PayTable.folded
  rw [mean_eq V x hx]
  simp only [line_eq V x hx]
  exact e

end

/-- The kernel's table holds the reference's scaled image at the patch's nine pixels. -/
theorem table_eq (m : (ℓ : Loc Cert.KernelIdeal.nD Cert.KernelIdeal.τ Cert.KernelIdeal.sig) → Buf (Elt Ideal) ℓ)
    (h0 : V (rr Cert.ReferenceIdeal.main_arg0) = launchContents m 0 (Proc.devRef (τ := Cert.KernelIdeal.τ) Proc.tc Cert.KernelIdeal.main_arg0))
    (h1 : V (rr Cert.ReferenceIdeal.main_arg1) = launchContents m 0 (Proc.devRef (τ := Cert.KernelIdeal.τ) Proc.tc Cert.KernelIdeal.main_arg1))
    (h2 : V (rr Cert.ReferenceIdeal.main_arg2) = launchContents m 0 (Proc.devRef (τ := Cert.KernelIdeal.τ) Proc.tc Cert.KernelIdeal.main_arg2))
    (h3 : V (rr Cert.ReferenceIdeal.main_arg3) = launchContents m 0 (Proc.devRef (τ := Cert.KernelIdeal.τ) Proc.tc Cert.KernelIdeal.main_arg3))
    (h4 : V (rr Cert.ReferenceIdeal.main_arg4) = launchContents m 0 (Proc.devRef (τ := Cert.KernelIdeal.τ) Proc.tc Cert.KernelIdeal.main_arg4))
    (h5 : V (rr Cert.ReferenceIdeal.main_arg5) = launchContents m 0 (Proc.devRef (τ := Cert.KernelIdeal.τ) Proc.tc Cert.KernelIdeal.main_arg5))
    (h6 : V (rr Cert.ReferenceIdeal.main_arg6) = launchContents m 0 (Proc.devRef (τ := Cert.KernelIdeal.τ) Proc.tc Cert.KernelIdeal.main_arg6))
    (h7 : V (rr Cert.ReferenceIdeal.main_arg7) = launchContents m 0 (Proc.devRef (τ := Cert.KernelIdeal.τ) Proc.tc Cert.KernelIdeal.main_arg7))
    (h8 : V (rr Cert.ReferenceIdeal.main_arg8) = launchContents m 0 (Proc.devRef (τ := Cert.KernelIdeal.τ) Proc.tc Cert.KernelIdeal.main_arg8))
    (h9 : V (rr Cert.ReferenceIdeal.main_arg9) = launchContents m 0 (Proc.devRef (τ := Cert.KernelIdeal.τ) Proc.tc Cert.KernelIdeal.main_arg9))
    (h10 : V (rr Cert.ReferenceIdeal.main_arg10) = launchContents m 0 (Proc.devRef (τ := Cert.KernelIdeal.τ) Proc.tc Cert.KernelIdeal.main_arg10))
    (f0 : ∀ i, Fin' (show EReal from V (rr Cert.ReferenceIdeal.main_arg0) i)) (f1 : ∀ i, Fin' (show EReal from V (rr Cert.ReferenceIdeal.main_arg1) i))
    (f3 : ∀ i, Fin' (show EReal from V (rr Cert.ReferenceIdeal.main_arg3) i)) (f5 : ∀ i, Fin' (show EReal from V (rr Cert.ReferenceIdeal.main_arg5) i))
    (k : Fin 5) (c : Fin 256) (a b : Fin 3) :
    KernelIdeal.table (fun c b => KernelIdeal.W1 m c b) 0 (ix3 k c ⟨a.val * 3 + b.val, by omega⟩)
      = Cert.ReferenceIdeal.Value.res_main_v547 V (ix4 (⟨k.val, by omega⟩ : Fin 64) c (⟨11 + a.val, by omega⟩ : Fin 25) (⟨11 + b.val, by omega⟩ : Fin 25)) := by
  have hx : ∀ (k : Fin 5) (c : Fin 256) (n : Fin 625), (show EReal from KernelIdeal.W1 m 0 Cert.KernelIdeal.main_v1 (ix3 k c n))
      = (show EReal from V (rr Cert.ReferenceIdeal.main_arg0) (ix4 (⟨k.val, by omega⟩ : Fin 64) c (⟨n.val / 25, by omega⟩ : Fin 25) (⟨n.val % 25, by omega⟩ : Fin 25))) := by
    intro k c n
    rw [h0]
    exact KernelIdeal.in_v1 m 0 k c n
  have g := folded_eq V (KernelIdeal.W1 m 0 Cert.KernelIdeal.main_v1) hx f0 f1 f3 f5 k
  rw [RefTable.v547_at, KernelIdeal.table_at]
  have e2 : (fun t => KernelIdeal.W1 m 0 Cert.KernelIdeal.main_v2 (ix2 1 t)) = fun t => (show EReal from V (rr Cert.ReferenceIdeal.main_arg1) (ix4 0 0 1 t)) := by
    funext t; rw [h1]; exact KernelIdeal.in_v2 m 0 1 t
  have e3 : (fun t => KernelIdeal.W1 m 0 Cert.KernelIdeal.main_v3 (ix2 2 t)) = fun t => (show EReal from V (rr Cert.ReferenceIdeal.main_arg3) (ix4 0 0 2 t)) := by
    funext t; rw [h3]; exact KernelIdeal.in_v3 m 0 2 t
  have e4 : (fun t => KernelIdeal.W1 m 0 Cert.KernelIdeal.main_v4 (ix2 3 t)) = fun t => (show EReal from V (rr Cert.ReferenceIdeal.main_arg5) (ix4 0 0 3 t)) := by
    funext t; rw [h5]; exact KernelIdeal.in_v4 m 0 3 t
  have b2 : KernelIdeal.W1 m 0 Cert.KernelIdeal.main_arg2 (ix1 0) = (show EReal from V (rr Cert.ReferenceIdeal.main_arg2) (ix1 0)) := by
    rw [h2, KernelIdeal.in_arg2]
  have b4 : KernelIdeal.W1 m 0 Cert.KernelIdeal.main_arg4 (ix1 0) = (show EReal from V (rr Cert.ReferenceIdeal.main_arg4) (ix1 0)) := by
    rw [h4, KernelIdeal.in_arg4]
  have b6 : KernelIdeal.W1 m 0 Cert.KernelIdeal.main_arg6 (ix1 0) = (show EReal from V (rr Cert.ReferenceIdeal.main_arg6) (ix1 0)) := by
    rw [h6, KernelIdeal.in_arg6]
  have hid : ∀ o : Fin 16, PayTable.hid (PayTable.folded (KernelIdeal.W1 m 0 Cert.KernelIdeal.main_v1) (fun t => KernelIdeal.W1 m 0 Cert.KernelIdeal.main_v2 (ix2 1 t))
        (fun t => KernelIdeal.W1 m 0 Cert.KernelIdeal.main_v3 (ix2 2 t)) (fun t => KernelIdeal.W1 m 0 Cert.KernelIdeal.main_v4 (ix2 3 t))
        (KernelIdeal.W1 m 0 Cert.KernelIdeal.main_arg2 (ix1 0)) (KernelIdeal.W1 m 0 Cert.KernelIdeal.main_arg4 (ix1 0)) (KernelIdeal.W1 m 0 Cert.KernelIdeal.main_arg6 (ix1 0)) k)
        (KernelIdeal.W1 m 0 Cert.KernelIdeal.main_v5) (KernelIdeal.W1 m 0 Cert.KernelIdeal.main_v7) o = RefTable.hid V ⟨k.val, by omega⟩ o := by
    intro o
    rw [e2, e3, e4, b2, b4, b6]
    unfold PayTable.hid RefTable.hid
    refine congrArg (max · 0) (congrArg₂ (· + ·) (Finset.sum_congr rfl fun c _ => congrArg₂ (· * ·) (g c) ?_) ?_)
    · rw [h7]; exact KernelIdeal.in_v5 m 0 o c
    · rw [h8]; exact KernelIdeal.in_v7 m 0 o
  refine congrArg₂ (· * ·) ?_ (congrArg Ideal.logistic ?_)
  · unfold PayTable.pixel
    rw [dif_pos (show a.val * 3 + b.val < 9 by omega)]
    refine (hx k c _).trans (congrArg (fun i => (show EReal from V (rr Cert.ReferenceIdeal.main_arg0) i)) ?_)
    have q1 : (286 + 25 * ((a.val * 3 + b.val) / 3) + (a.val * 3 + b.val) % 3) / 25 = 11 + a.val := by omega
    have q2 : (286 + 25 * ((a.val * 3 + b.val) / 3) + (a.val * 3 + b.val) % 3) % 25 = 11 + b.val := by omega
    simp only [q1, q2]
  · unfold RefTable.logit
    refine congrArg₂ (· + ·) (Finset.sum_congr rfl fun o _ => congrArg₂ (· * ·) (hid o) ?_) ?_
    · rw [h9]; exact KernelIdeal.in_v6 m 0 c o
    · rw [h10]; exact KernelIdeal.in_v8 m 0 c

/-- The kernel's result is the reference's, at every place. -/
theorem value_at (m : (ℓ : Loc Cert.KernelIdeal.nD Cert.KernelIdeal.τ Cert.KernelIdeal.sig) → Buf (Elt Ideal) ℓ)
    (h0 : V (rr Cert.ReferenceIdeal.main_arg0) = launchContents m 0 (Proc.devRef (τ := Cert.KernelIdeal.τ) Proc.tc Cert.KernelIdeal.main_arg0))
    (h1 : V (rr Cert.ReferenceIdeal.main_arg1) = launchContents m 0 (Proc.devRef (τ := Cert.KernelIdeal.τ) Proc.tc Cert.KernelIdeal.main_arg1))
    (h2 : V (rr Cert.ReferenceIdeal.main_arg2) = launchContents m 0 (Proc.devRef (τ := Cert.KernelIdeal.τ) Proc.tc Cert.KernelIdeal.main_arg2))
    (h3 : V (rr Cert.ReferenceIdeal.main_arg3) = launchContents m 0 (Proc.devRef (τ := Cert.KernelIdeal.τ) Proc.tc Cert.KernelIdeal.main_arg3))
    (h4 : V (rr Cert.ReferenceIdeal.main_arg4) = launchContents m 0 (Proc.devRef (τ := Cert.KernelIdeal.τ) Proc.tc Cert.KernelIdeal.main_arg4))
    (h5 : V (rr Cert.ReferenceIdeal.main_arg5) = launchContents m 0 (Proc.devRef (τ := Cert.KernelIdeal.τ) Proc.tc Cert.KernelIdeal.main_arg5))
    (h6 : V (rr Cert.ReferenceIdeal.main_arg6) = launchContents m 0 (Proc.devRef (τ := Cert.KernelIdeal.τ) Proc.tc Cert.KernelIdeal.main_arg6))
    (h7 : V (rr Cert.ReferenceIdeal.main_arg7) = launchContents m 0 (Proc.devRef (τ := Cert.KernelIdeal.τ) Proc.tc Cert.KernelIdeal.main_arg7))
    (h8 : V (rr Cert.ReferenceIdeal.main_arg8) = launchContents m 0 (Proc.devRef (τ := Cert.KernelIdeal.τ) Proc.tc Cert.KernelIdeal.main_arg8))
    (h9 : V (rr Cert.ReferenceIdeal.main_arg9) = launchContents m 0 (Proc.devRef (τ := Cert.KernelIdeal.τ) Proc.tc Cert.KernelIdeal.main_arg9))
    (h10 : V (rr Cert.ReferenceIdeal.main_arg10) = launchContents m 0 (Proc.devRef (τ := Cert.KernelIdeal.τ) Proc.tc Cert.KernelIdeal.main_arg10))
    (f0 : ∀ i, Fin' (show EReal from V (rr Cert.ReferenceIdeal.main_arg0) i)) (f1 : ∀ i, Fin' (show EReal from V (rr Cert.ReferenceIdeal.main_arg1) i))
    (f3 : ∀ i, Fin' (show EReal from V (rr Cert.ReferenceIdeal.main_arg3) i)) (f5 : ∀ i, Fin' (show EReal from V (rr Cert.ReferenceIdeal.main_arg5) i))
    (i : Fin 64) (mm : Fin 5) (p : Fin 100) (a b : Fin 3) :
    Cert.ReferenceIdeal.Value.res_main_v608 V (ix5 i mm p a b) = KernelIdeal.W5 m 0 Cert.KernelIdeal.main_v15 (ix5 i mm p a b) := by
  obtain ⟨hw, hl⟩ := word i mm p
  rw [RefOut.out_at V i mm p a b ⟨_, hl⟩ rfl, KernelIdeal.out_at m i mm p a b (⟨4 - mm.val, by omega⟩ : Fin 5) (⟨_, hl⟩ : Fin 256) hw]
  exact (table_eq V m h0 h1 h2 h3 h4 h5 h6 h7 h8 h9 h10 f0 f1 f3 f5 ⟨4 - mm.val, by omega⟩ ⟨_, hl⟩ a b).symm

end Cert.Proof.Link
end
-- ==== Proof.Finite.lean ====
/-
  What the precondition says: the images and the three convolutions' weights are neither infinity.
-/
module

public import proofs.«01_k».proof.Pre_finite
public import proofs.«01_k».proof.Proof.Fold
public import Idealize.ShloMosaic.Lib.ReduceAll

@[expose] public section

noncomputable section

namespace Cert.Proof.Finite

open Idealize.ShloMosaic Cert.Proof.Fold Cert.Pre_finite

/-- The pattern the magnitudes are compared with is the greater infinity. -/
theorem inf_bits : Ideal.ofBits .f32 0x7F800000#32 = ⊤ := by
  simp [Ideal.ofBits, Ideal.ieee]

/-- A number whose magnitude is below it is finite. -/
theorem of_bit (z : EReal) (h : FloatOps.cmpf (F := Ideal) .olt (FloatOps.absf (F := Ideal) (φ := .f32) z) (Ideal.ofBits .f32 0x7F800000#32) = 1#1) : Fin' z := by
  rw [inf_bits] at h
  have h : Ideal.cmp .olt (max z (-z)) ⊤ = 1#1 := h
  induction z using EReal.rec with
  | bot => exfalso; revert h; simp [Ideal.cmp]
  | top => exfalso; revert h; simp [Ideal.cmp]
  | coe r => exact ⟨r, rfl⟩

instance : Subsingleton S_.Idx := ⟨fun _ _ => funext fun x => x.elim0⟩

variable [Facts]

theorem all (a0 : FVec Ideal S64x256x25x25 .f32) (a1 : FVec Ideal S1x1x3x3 .f32) (a2 : FVec Ideal S1 .f32) (a3 : FVec Ideal S1x1x5x5 .f32)
    (a4 : FVec Ideal S1 .f32) (a5 : FVec Ideal S1x1x7x7 .f32) (a6 : FVec Ideal S1 .f32) (a7 : FVec Ideal S16x256x1x1 .f32) (a8 : FVec Ideal S16 .f32)
    (a9 : FVec Ideal S256x16x1x1 .f32) (a10 : FVec Ideal S256 .f32) (j : S_.Idx)
    (h : fn (F := Ideal) a0 a1 a2 a3 a4 a5 a6 a7 a8 a9 a10 j = 1#1) :
    (∀ i, Fin' (a0 i)) ∧ (∀ i, Fin' (a1 i)) ∧ (∀ i, Fin' (a3 i)) ∧ (∀ i, Fin' (a5 i)) := by
  dsimp only [fn, fn_part1] at h
  have two (x y : BitVec 1) (e : IntOp.andi x y = 1#1) : x = 1#1 ∧ y = 1#1 := by
    revert e; revert x y; decide
  obtain ⟨h, h5⟩ := two _ _ h
  obtain ⟨h, h3⟩ := two _ _ h
  obtain ⟨h0, h1⟩ := two _ _ h
  exact ⟨fun i => of_bit _ (Host.reduce_andi_all _ _ _ _ j h0 i), fun i => of_bit _ (Host.reduce_andi_all _ _ _ _ j h1 i),
    fun i => of_bit _ (Host.reduce_andi_all _ _ _ _ j h3 i), fun i => of_bit _ (Host.reduce_andi_all _ _ _ _ j h5 i)⟩

end Cert.Proof.Finite
end
-- ==== Proof.Algebraic.lean ====
/-
  The idealized kernel computes what the idealized reference computes, from finite images and weights.
-/
module

public import proofs.«01_k».proof.Defs
public import proofs.«01_k».proof.Proof.Link
public import proofs.«01_k».proof.Proof.Finite
public import proofs.«01_k».proof.Proof.Gen.Pre_finite

@[expose] public section

set_option maxRecDepth 16384

noncomputable section

namespace Cert.Proof.Algebraic

open Idealize.ShloMosaic Idealize.ShloMosaic.TcCoe Idealize.SL.Sem
open Idealize.ShloMosaic.StableHlo (launchContents)

/-- Both run to their ends, leave their arguments as they were, and leave one value. -/
theorem value : Cert.algebraic_KernelIdeal_ReferenceIdeal_pre_finite := by
  intro m g m' g' hpre hargs
  refine ⟨fun c => KernelIdeal.W5 m c Cert.KernelIdeal.main_v15, ?_, ?_⟩
  · refine (θ_run Cert.KernelIdeal.defs _ _).mono (fun r h c => ⟨(h.1 c).1, ?_⟩) (KernelIdeal.run_main m g Lists.ideal_lt)
    have a := (h.1 c).2
    simp only [Cert.Proof.KernelIdeal.args, List.forall_mem_cons, List.not_mem_nil, false_imp_iff, implies_true, and_true] at a
    exact a
  · refine (θ_run Cert.ReferenceIdeal.defs _ _).mono (fun r h c => ⟨(h c).1.trans ?_, (h c).2⟩) (Cert.ReferenceIdeal.Value.run m' g')
    obtain rfl : c = 0 := Subsingleton.elim _ _
    obtain ⟨h0, h1, h2, h3, h4, h5, h6, h7, h8, h9, h10⟩ := hargs 0
    obtain ⟨f0, f1, f3, f5⟩ := Finite.all _ _ _ _ _ _ _ _ _ _ _ (fun x => x.elim0) (congrFun (hpre 0) (fun x => x.elim0))
    rw [← h0] at f0
    rw [← h1] at f1
    rw [← h3] at f3
    rw [← h5] at f5
    funext j
    idx_vars j
    exact Link.value_at (launchContents m' 0) m h0 h1 h2 h3 h4 h5 h6 h7 h8 h9 h10 f0 f1 f3 f5 _ _ _ _ _

end Cert.Proof.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claim: the frames of the kernel, its idealization and the reference, the named constant, and that the
    idealized kernel computes what the idealized reference computes from finite images and weights. -/
theorem claim : Cert.Claim :=
  ⟨Cert.Kernel.Gen.facts, Cert.KernelIdeal.Gen.facts, Cert.ReferenceIdeal.Gen.facts, Cert.Pre_finite.Gen.facts,
    Frames.kernel, Frames.ideal, Frames.ideal_finite, Frames.reference, Frames.reference_finite, Frames.preserves, Algebraic.value⟩

end Cert.Proof

end
